-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_router_finite : Cert.Pre_router_finite.Facts),
    quiescent_Kernel (hKernel := hKernel)
    ∧ quiescent_KernelIdeal (hKernelIdeal := hKernelIdeal)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ preserves_Kernel_KernelIdeal
    ∧ algebraic_KernelIdeal_ReferenceIdeal_pre_router_finite (hKernelIdeal := hKernelIdeal) (hReferenceIdeal := hReferenceIdeal) (hPre_router_finite := hPre_router_finite)
-- ==== Pre_router_finite.lean ====
abbrev S64x8x2048 : Shape := ⟨3, ![64, 8, 2048]⟩
abbrev S16x2048 : Shape := ⟨2, ![16, 2048]⟩
abbrev S16x1024x2048 : Shape := ⟨3, ![16, 1024, 2048]⟩
abbrev S16x2048x1024 : Shape := ⟨3, ![16, 2048, 1024]⟩
abbrev S2048x2048 : Shape := ⟨2, ![2048, 2048]⟩
abbrev S_ : Shape := ⟨0, ![]⟩

class Facts : Prop where
  bcast_S_S64x8x2048 : S_.BroadcastsInDim S64x8x2048 (![] : Fin 0 → Fin S64x8x2048.rank)
  bcast_S_S16x2048 : S_.BroadcastsInDim S16x2048 (![] : Fin 0 → Fin S16x2048.rank)

variable [Facts]

def fn {F : FTy → Type} [FloatOps F] (main_arg0 : FVec F S64x8x2048 .f32) (main_arg1 : FVec F S16x2048 .f32) (main_arg2 : FVec F S16x1024x2048 .f32) (main_arg3 : FVec F S16x2048x1024 .f32) (main_arg4 : FVec F S16x1024x2048 .f32) (main_arg5 : FVec F S2048x2048 .f32) (main_arg6 : FVec F S2048x2048 .f32) (main_arg7 : FVec F S2048x2048 .f32) : IVec S64x8x2048 1 × IVec S16x2048 1 :=
  let main_v0 : FVec F S64x8x2048 .f32 := Host.absf main_arg0
  let main_cst : FVec F S_ .f32 := constant S_ .f32 0x7F800000#32
  let main_v1 : FVec F S64x8x2048 .f32 := broadcastInDim S64x8x2048 ![] bcast_S_S64x8x2048 main_cst
  let main_v2 : IVec S64x8x2048 1 := cmpf .olt main_v0 main_v1
  let main_v3 : FVec F S16x2048 .f32 := Host.absf main_arg1
  let main_cst_0 : FVec F S_ .f32 := constant S_ .f32 0x7F800000#32
  let main_v4 : FVec F S16x2048 .f32 := broadcastInDim S16x2048 ![] bcast_S_S16x2048 main_cst_0
  let main_v5 : IVec S16x2048 1 := cmpf .olt main_v3 main_v4
  (main_v2, main_v5)
-- ==== Kernel.lean ====
abbrev S64x8x2048 : Shape := ⟨3, ![64, 8, 2048]⟩
abbrev S16x2048 : Shape := ⟨2, ![16, 2048]⟩
abbrev S16x1024x2048 : Shape := ⟨3, ![16, 1024, 2048]⟩
abbrev S16x2048x1024 : Shape := ⟨3, ![16, 2048, 1024]⟩
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩
abbrev S1x512x2048 : Shape := ⟨3, ![1, 512, 2048]⟩
abbrev S1x2048x512 : Shape := ⟨3, ![1, 2048, 512]⟩
abbrev S512x8 : Shape := ⟨2, ![512, 8]⟩
abbrev S256x2048 : Shape := ⟨2, ![256, 2048]⟩
abbrev S512x256 : Shape := ⟨2, ![512, 256]⟩
abbrev S512x16 : Shape := ⟨2, ![512, 16]⟩
abbrev S512 : Shape := ⟨1, ![512]⟩
abbrev S512x1 : Shape := ⟨2, ![512, 1]⟩
abbrev S1x256 : Shape := ⟨2, ![1, 256]⟩
abbrev S256x512 : Shape := ⟨2, ![256, 512]⟩

abbrev nBuf : Space → Nat
  | .hbm => 12
  | .vmem => 22
  | .smem => 0
  | _ => 0

abbrev bufTy : (tb : Table) → Fin (tcTables nBuf tb) → BufTy
  | .hbm, ⟨0, _⟩ => ⟨S64x8x2048, .f32⟩
  | .hbm, ⟨1, _⟩ => ⟨S16x2048, .f32⟩
  | .hbm, ⟨2, _⟩ => ⟨S16x1024x2048, .f32⟩
  | .hbm, ⟨3, _⟩ => ⟨S16x2048x1024, .f32⟩
  | .hbm, ⟨4, _⟩ => ⟨S16x1024x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S64x8x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S2048x512, .f32⟩
  | .local _ .vmem, ⟨6, _⟩ => ⟨S2048x512, .f32⟩
  | .local _ .vmem, ⟨7, _⟩ => ⟨S512x2048, .f32⟩
  | .local _ .vmem, ⟨8, _⟩ => ⟨S512x2048, .f32⟩
  | .local _ .vmem, ⟨9, _⟩ => ⟨S16x2048, .f32⟩
  | .local _ .vmem, ⟨10, _⟩ => ⟨S512x2048, .f32⟩
  | .local _ .vmem, ⟨11, _⟩ => ⟨S1x512x2048, .f32⟩
  | .local _ .vmem, ⟨12, _⟩ => ⟨S1x512x2048, .f32⟩
  | .local _ .vmem, ⟨13, _⟩ => ⟨S1x512x2048, .f32⟩
  | .local _ .vmem, ⟨14, _⟩ => ⟨S1x512x2048, .f32⟩
  | .local _ .vmem, ⟨15, _⟩ => ⟨S1x2048x512, .f32⟩
  | .local _ .vmem, ⟨16, _⟩ => ⟨S1x2048x512, .f32⟩
  | .local _ .vmem, ⟨17, _⟩ => ⟨S512x2048, .f32⟩
  | .local _ .vmem, ⟨18, _⟩ => ⟨S512x8, .f32⟩
  | .local _ .vmem, ⟨19, _⟩ => ⟨S256x2048, .bf16⟩
  | .local _ .vmem, ⟨20, _⟩ => ⟨S512x256, .bf16⟩
  | .local _ .vmem, ⟨21, _⟩ => ⟨S256x2048, .f32⟩
  | _, _ => ⟨S64x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_v0 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc1_scratch3 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![16, 2], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k1_cond4 (i : grid1.Coords) : BitVec 1 :=
  let arg1 : BitVec 32 := BitVec.ofNat 32 (i 1).val
  let c1_i32 : BitVec 32 := 1#32
  let v28 : BitVec 1 := Scalar.cmpi .eq arg1 c1_i32
  let v29 : BitVec 32 := Scalar.extui v28
  let c0_i32_18 : BitVec 32 := 0#32
  let v30 : BitVec 1 := Scalar.cmpi .ne v29 c0_i32_18
  v30

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S16x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S512x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x2048x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 1 → Memref sig .tc .vmem S512x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]
-- ==== ReferenceIdeal.lean ====
abbrev S64x8x2048 : Shape := ⟨3, ![64, 8, 2048]⟩
abbrev S16x2048 : Shape := ⟨2, ![16, 2048]⟩
abbrev S16x1024x2048 : Shape := ⟨3, ![16, 1024, 2048]⟩
abbrev S16x2048x1024 : Shape := ⟨3, ![16, 2048, 1024]⟩
abbrev S2048x2048 : Shape := ⟨2, ![2048, 2048]⟩
abbrev S512x2048 : Shape := ⟨2, ![512, 2048]⟩
abbrev S2048x16 : Shape := ⟨2, ![2048, 16]⟩
abbrev S512x16 : Shape := ⟨2, ![512, 16]⟩
abbrev S_ : Shape := ⟨0, ![]⟩
abbrev S512 : Shape := ⟨1, ![512]⟩
abbrev S512x1 : Shape := ⟨2, ![512, 1]⟩
abbrev S512x2 : Shape := ⟨2, ![512, 2]⟩
abbrev S1024 : Shape := ⟨1, ![1024]⟩
abbrev S1024x1 : Shape := ⟨2, ![1024, 1]⟩
abbrev S1x16 : Shape := ⟨2, ![1, 16]⟩
abbrev S1024x16 : Shape := ⟨2, ![1024, 16]⟩
abbrev S512x2x2048 : Shape := ⟨3, ![512, 2, 2048]⟩
abbrev S1024x2048 : Shape := ⟨2, ![1024, 2048]⟩
abbrev S16x256x2048 : Shape := ⟨3, ![16, 256, 2048]⟩
abbrev S1024x2 : Shape := ⟨2, ![1024, 2]⟩
abbrev S16x256x1024 : Shape := ⟨3, ![16, 256, 1024]⟩
abbrev S512x2x1 : Shape := ⟨3, ![512, 2, 1]⟩

abbrev nBuf : Space → Nat
  | .hbm => 148
  | .vmem => 0
  | .smem => 0
  | _ => 0

abbrev hbmTy0_0 (i : Nat) : BufTy := match i % 128 with
  | 0 => ⟨S64x8x2048, .f32⟩
  | 1 => ⟨S16x2048, .f32⟩
  | 2 => ⟨S16x1024x2048, .f32⟩
  | 3 => ⟨S16x2048x1024, .f32⟩
  | 4 => ⟨S16x1024x2048, .f32⟩
  | 5 => ⟨S2048x2048, .f32⟩
  | 6 => ⟨S2048x2048, .f32⟩
  | 7 => ⟨S2048x2048, .f32⟩
  | 8 => ⟨S512x2048, .f32⟩
  | 9 => ⟨S2048x16, .f32⟩
  | 10 => ⟨S512x16, .f32⟩
  | 11 => ⟨S_, .f32⟩
  | 12 => ⟨S512, .f32⟩
  | 13 => ⟨S_, .f32⟩
  | 14 => ⟨S512, .f32⟩
  | 15 => ⟨S512, .f32⟩
  | 16 => ⟨S512x1, .f32⟩
  | 17 => ⟨S512x16, .f32⟩
  | 18 => ⟨S512x16, .f32⟩
  | 19 => ⟨S512x16, .f32⟩
  | 20 => ⟨S_, .f32⟩
  | 21 => ⟨S512, .f32⟩
  | 22 => ⟨S512x1, .f32⟩
  | 23 => ⟨S512x16, .f32⟩
  | 24 => ⟨S512x16, .f32⟩
  | 25 => ⟨S512x2, .f32⟩
  | 26 => ⟨S512x2, .i32⟩
  | 27 => ⟨S_, .f32⟩
  | 28 => ⟨S512, .f32⟩
  | 29 => ⟨S512x1, .f32⟩
  | 30 => ⟨S512x2, .f32⟩
  | 31 => ⟨S512x2, .f32⟩
  | 32 => ⟨S1024, .i32⟩
  | 33 => ⟨S1024x1, .i32⟩
  | 34 => ⟨S1x16, .i32⟩
  | 35 => ⟨S1024x16, .i32⟩
  | 36 => ⟨S1024x16, .i32⟩
  | 37 => ⟨S1024x16, .i1⟩
  | 38 => ⟨S1024x16, .i32⟩
  | 39 => ⟨S_, .i32⟩
  | 40 => ⟨S_, .i32⟩
  | 41 => ⟨S1024x16, .i32⟩
  | 42 => ⟨S1024x16, .i32⟩
  | 43 => ⟨S_, .i32⟩
  | 44 => ⟨S1024, .i32⟩
  | 45 => ⟨S_, .i32⟩
  | 46 => ⟨S1024, .i32⟩
  | 47 => ⟨S1024, .i32⟩
  | 48 => ⟨S_, .i32⟩
  | 49 => ⟨S1024, .i32⟩
  | 50 => ⟨S1024, .i1⟩
  | 51 => ⟨S_, .i32⟩
  | 52 => ⟨S_, .i32⟩
  | 53 => ⟨S_, .i32⟩
  | 54 => ⟨S1024, .i32⟩
  | 55 => ⟨S1024, .i32⟩
  | 56 => ⟨S_, .i32⟩
  | 57 => ⟨S1024, .i32⟩
  | 58 => ⟨S1024, .i32⟩
  | 59 => ⟨S512x2x2048, .f32⟩
  | 60 => ⟨S1024x2048, .f32⟩
  | 61 => ⟨S1024x1, .i1⟩
  | 62 => ⟨S_, .f32⟩
  | 63 => ⟨S_, .f32⟩
  | 64 => ⟨S1024x2048, .i1⟩
  | 65 => ⟨S1024x2048, .f32⟩
  | 66 => ⟨S1024x2048, .f32⟩
  | 67 => ⟨S_, .f32⟩
  | 68 => ⟨S16x256x2048, .f32⟩
  | 69 => ⟨S_, .i32⟩
  | 70 => ⟨S1024, .i32⟩
  | 71 => ⟨S1024, .i1⟩
  | 72 => ⟨S_, .i32⟩
  | 73 => ⟨S1024, .i32⟩
  | 74 => ⟨S1024, .i32⟩
  | 75 => ⟨S1024, .i32⟩
  | 76 => ⟨S_, .i32⟩
  | 77 => ⟨S1024, .i32⟩
  | 78 => ⟨S1024, .i1⟩
  | 79 => ⟨S_, .i32⟩
  | 80 => ⟨S1024, .i32⟩
  | 81 => ⟨S1024, .i32⟩
  | 82 => ⟨S1024, .i32⟩
  | 83 => ⟨S1024x1, .i32⟩
  | 84 => ⟨S1024x1, .i32⟩
  | 85 => ⟨S1024x2, .i32⟩
  | 86 => ⟨S16x256x2048, .f32⟩
  | 87 => ⟨S16x256x1024, .f32⟩
  | 88 => ⟨S16x256x1024, .f32⟩
  | 89 => ⟨S16x256x1024, .f32⟩
  | 90 => ⟨S_, .f32⟩
  | 91 => ⟨S16x256x1024, .f32⟩
  | 92 => ⟨S16x256x1024, .f32⟩
  | 93 => ⟨S_, .f32⟩
  | 94 => ⟨S16x256x1024, .f32⟩
  | 95 => ⟨S16x256x1024, .f32⟩
  | 96 => ⟨S16x256x1024, .f32⟩
  | 97 => ⟨S16x256x1024, .f32⟩
  | 98 => ⟨S16x256x1024, .f32⟩
  | 99 => ⟨S16x256x2048, .f32⟩
  | 100 => ⟨S1024x1, .i1⟩
  | 101 => ⟨S_, .i32⟩
  | 102 => ⟨S1024, .i32⟩
  | 103 => ⟨S1024, .i1⟩
  | 104 => ⟨S_, .i32⟩
  | 105 => ⟨S1024, .i32⟩
  | 106 => ⟨S1024, .i32⟩
  | 107 => ⟨S1024, .i32⟩
  | 108 => ⟨S_, .i32⟩
  | 109 => ⟨S1024, .i32⟩
  | 110 => ⟨S1024, .i1⟩
  | 111 => ⟨S_, .i32⟩
  | 112 => ⟨S1024, .i32⟩
  | 113 => ⟨S1024, .i32⟩
  | 114 => ⟨S1024, .i32⟩
  | 115 => ⟨S1024x1, .i32⟩
  | 116 => ⟨S1024x1, .i32⟩
  | 117 => ⟨S1024x2, .i32⟩
  | 118 => ⟨S1024x2048, .f32⟩
  | 119 => ⟨S_, .f32⟩
  | 120 => ⟨S_, .f32⟩
  | 121 => ⟨S1024x2048, .i1⟩
  | 122 => ⟨S1024x2048, .f32⟩
  | 123 => ⟨S1024x2048, .f32⟩
  | 124 => ⟨S512x2x2048, .f32⟩
  | 125 => ⟨S512x2x1, .f32⟩
  | 126 => ⟨S512x2x2048, .f32⟩
  | 127 => ⟨S512x2x2048, .f32⟩
  | _ => ⟨S64x8x2048, .f32⟩

abbrev hbmTy0_1 (i : Nat) : BufTy := match i % 128 with
  | 0 => ⟨S_, .f32⟩
  | 1 => ⟨S512x2048, .f32⟩
  | 2 => ⟨S2048x2048, .f32⟩
  | 3 => ⟨S512x2048, .f32⟩
  | 4 => ⟨S512x2048, .f32⟩
  | 5 => ⟨S512x2048, .f32⟩
  | 6 => ⟨S_, .f32⟩
  | 7 => ⟨S512x2048, .f32⟩
  | 8 => ⟨S512x2048, .f32⟩
  | 9 => ⟨S_, .f32⟩
  | 10 => ⟨S512x2048, .f32⟩
  | 11 => ⟨S512x2048, .f32⟩
  | 12 => ⟨S512x2048, .f32⟩
  | 13 => ⟨S2048x2048, .f32⟩
  | 14 => ⟨S512x2048, .f32⟩
  | 15 => ⟨S512x2048, .f32⟩
  | 16 => ⟨S2048x2048, .f32⟩
  | 17 => ⟨S512x2048, .f32⟩
  | 18 => ⟨S512x2048, .f32⟩
  | 19 => ⟨S64x8x2048, .f32⟩
  | _ => ⟨S64x8x2048, .f32⟩

abbrev hbmTy (i : Nat) : BufTy := match i / 128 with
  | 0 => hbmTy0_0 i
  | 1 => hbmTy0_1 i
  | _ => ⟨S64x8x2048, .f32⟩

abbrev bufTy : (tb : Table) → Fin (tcTables nBuf tb) → BufTy
  | .hbm, ⟨i, _⟩ => hbmTy i
  | _, _ => ⟨S64x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_values : Ref sig .tc := ⟨.hbm, 25, rfl⟩
abbrev main_indices : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v19 : Ref sig .tc := ⟨.hbm, 38, rfl⟩
abbrev main_call1_call0_c : Ref sig .tc := ⟨.hbm, 39, rfl⟩
abbrev main_call1_call0_v0 : Ref sig .tc := ⟨.hbm, 40, rfl⟩
abbrev main_v20 : Ref sig .tc := ⟨.hbm, 41, rfl⟩
abbrev main_v21 : Ref sig .tc := ⟨.hbm, 42, rfl⟩
abbrev main_c : Ref sig .tc := ⟨.hbm, 43, rfl⟩
abbrev main_v22 : Ref sig .tc := ⟨.hbm, 44, rfl⟩
abbrev main_c_3 : Ref sig .tc := ⟨.hbm, 45, rfl⟩
abbrev main_v23 : Ref sig .tc := ⟨.hbm, 46, rfl⟩
abbrev main_v24 : Ref sig .tc := ⟨.hbm, 47, rfl⟩
abbrev main_c_4 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_c_6 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_7 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_v31 : Ref sig .tc := ⟨.hbm, 66, rfl⟩
abbrev main_cst_8 : Ref sig .tc := ⟨.hbm, 67, rfl⟩
abbrev main_v32 : Ref sig .tc := ⟨.hbm, 68, rfl⟩
abbrev main_c_9 : Ref sig .tc := ⟨.hbm, 69, rfl⟩
abbrev main_v33 : Ref sig .tc := ⟨.hbm, 70, rfl⟩
abbrev main_v34 : Ref sig .tc := ⟨.hbm, 71, rfl⟩
abbrev main_c_10 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_c_11 : Ref sig .tc := ⟨.hbm, 76, rfl⟩
abbrev main_v38 : Ref sig .tc := ⟨.hbm, 77, rfl⟩
abbrev main_v39 : Ref sig .tc := ⟨.hbm, 78, rfl⟩
abbrev main_c_12 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_call4_v0 : Ref sig .tc := ⟨.hbm, 88, rfl⟩
abbrev main_call4_v1 : Ref sig .tc := ⟨.hbm, 89, rfl⟩
abbrev main_call4_cst : Ref sig .tc := ⟨.hbm, 90, rfl⟩
abbrev main_call4_v2 : Ref sig .tc := ⟨.hbm, 91, rfl⟩
abbrev main_call4_v3 : Ref sig .tc := ⟨.hbm, 92, rfl⟩
abbrev main_call4_cst_0 : Ref sig .tc := ⟨.hbm, 93, rfl⟩
abbrev main_call4_v4 : Ref sig .tc := ⟨.hbm, 94, rfl⟩
abbrev main_call4_v5 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_c_13 : Ref sig .tc := ⟨.hbm, 101, rfl⟩
abbrev main_v53 : Ref sig .tc := ⟨.hbm, 102, rfl⟩
abbrev main_v54 : Ref sig .tc := ⟨.hbm, 103, rfl⟩
abbrev main_c_14 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_c_15 : Ref sig .tc := ⟨.hbm, 108, rfl⟩
abbrev main_v58 : Ref sig .tc := ⟨.hbm, 109, rfl⟩
abbrev main_v59 : Ref sig .tc := ⟨.hbm, 110, rfl⟩
abbrev main_c_16 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_cst_17 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_cst_18 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_call6_v0 : Ref sig .tc := ⟨.hbm, 132, rfl⟩
abbrev main_call6_v1 : Ref sig .tc := ⟨.hbm, 133, rfl⟩
abbrev main_call6_cst : Ref sig .tc := ⟨.hbm, 134, rfl⟩
abbrev main_call6_v2 : Ref sig .tc := ⟨.hbm, 135, rfl⟩
abbrev main_call6_v3 : Ref sig .tc := ⟨.hbm, 136, rfl⟩
abbrev main_call6_cst_0 : Ref sig .tc := ⟨.hbm, 137, rfl⟩
abbrev main_call6_v4 : Ref sig .tc := ⟨.hbm, 138, rfl⟩
abbrev main_call6_v5 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩

abbrev nD : Nat := 1
abbrev τ : Topo := Topo.v7x

variable {F : FTy → Type} [FloatOps F]
-- ==== Proof.KernelIdeal.Body0.lean ====
/- One grid point of the shared-expert call (`_shared_kernel`), run on any staging buffers: at the first point the
   accumulator is reset and holds this point's chunk, at a later one the chunk is added to what it held. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch: the grid coordinate is zero. -/
abbrev first0 (i : grid0.Coords) : Prop :=
  (Scalar.cmpi .ne (Scalar.extui (Scalar.cmpi .eq (BitVec.ofNat 32 (i 0).val) 0#32)) 0#32) = 1#1

/-- The branch is taken at the first point only. -/
theorem first0_iff (t : Fin cfg0.N) : first0 (grid0.coords t) ↔ t.val = 0 :=
  (fun (t : Fin grid0.N) => by
    have ht : t.val < 4 := Nat.lt_of_lt_of_eq t.isLt N_0
    have e0 : (grid0.coords t 0).val = t.val / 1 % 4 := Pipeline.Grid.coords_val t 0 (by decide) rfl
    have : t.val = 0 ↔ t.val % 4 = 0 := by omega
    rw [this]
    simp only [first0, e0]
    word_cmp
   : ∀ t : Fin grid0.N, first0 (grid0.coords t) ↔ t.val = 0) t

/-- A function of five arguments at equal arguments. -/
theorem args5 {α β γ δ ε ζ : Type _} {f : α → β → γ → δ → ε → ζ} {a a' : α} {b b' : β} {c c' : γ} {d d' : δ} {e e' : ε}
    (ha : a = a') (hb : b = b') (hc : c = c') (hd : d = d') (he : e = e') : f a b c d e = f a' b' c' d' e' := by
  subst ha hb hc hd he; rfl

set_option maxHeartbeats 200000 in
/-- At the first point the accumulator, whatever it held, ends at the first chunk added to zero. -/
theorem shared_first (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S2048x512 .f32) (harg4 : arg4.IsWhole) (arg5 : Memref sig .tc .vmem S512x2048 .f32) (harg5 : arg5.IsWhole) (hc0 : first0 i)
    (x0 : Vec F S512x2048 .f32) (x1 : Vec F S512x2048 .f32) (x2 : Vec F S512x2048 .f32) (x3 : Vec F S2048x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay2 x0 x1 x2 (k0_pay1 (F := F)) x3)) -∗ K ⟨⟩))
      ⊢ wp frame (wpE (defs₀ (F := F)) Variants.none c none) E (cc0__shared_kernel i arg1 harg1 arg2 harg2 arg3 harg3 arg4 harg4 arg5 harg5) K := by
  simp only [cc0__shared_kernel_eq_skeleton]; unfold cc0__shared_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1; obtain rfl := harg3.eq_unread hf2; obtain rfl := harg4.eq_unread hf3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  refine (View.read_writes_full _ _ _ _ _).trans ?_
  refine args5 (f := k0_pay2 (F := F)) ?_ ?_ ?_ ?_ ?_
  · exact (View.readAt_full _ _ _).trans (harg1.read_unread _)
  · exact (View.readAt_full _ _ _).trans (harg2.read_unread _)
  · exact (View.readAt_full _ _ _).trans (harg3.read_unread _)
  · unfold shared_first.sl.v16
    exact View.readCov_full _ _ _ _ _
  · exact (View.readAt_full _ _ _).trans (harg4.read_unread _)

set_option maxHeartbeats 200000 in
/-- At a later point the chunk is added to what the accumulator held. -/
theorem shared_next (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S2048x512 .f32) (harg4 : arg4.IsWhole) (arg5 : Memref sig .tc .vmem S512x2048 .f32) (harg5 : arg5.IsWhole) (hc0 : ¬first0 i)
    (x0 : Vec F S512x2048 .f32) (x1 : Vec F S512x2048 .f32) (x2 : Vec F S512x2048 .f32) (x3 : Vec F S2048x512 .f32) (y : Vec F S512x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay2 x0 x1 x2 y x3)) -∗ K ⟨⟩))
      ⊢ wp frame (wpE (defs₀ (F := F)) Variants.none c none) E (cc0__shared_kernel i arg1 harg1 arg2 harg2 arg3 harg3 arg4 harg4 arg5 harg5) K := by
  simp only [cc0__shared_kernel_eq_skeleton]; unfold cc0__shared_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  refine (View.read_writes_full _ _ _ _ _).trans ?_
  refine args5 (f := k0_pay2 (F := F)) ?_ ?_ ?_ ?_ ?_
  · exact (View.readAt_full _ _ _).trans (harg1.read_unread _)
  · exact (View.readAt_full _ _ _).trans (harg2.read_unread _)
  · exact (View.readAt_full _ _ _).trans (harg3.read_unread _)
  · exact (View.readAt_full _ _ _).trans (harg5.read_unread _)
  · exact (View.readAt_full _ _ _).trans (harg4.read_unread _)

end Cert.KernelIdeal.Own

end
-- ==== Proof.KernelIdeal.Region0.lean ====
/- The shared-expert call (`_shared_kernel`) point by point: what each staging buffer holds before and after the body,
   at any contents of the buffers the call is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp
public import proofs.«01_k».proof.Proof.KernelIdeal.Body0

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-- A window's block at a point, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the point at a position: the chunks so far, added up from zero in order. -/
def acc0 (c : Dev nD) : (n : ℕ) → n < cfg0.N → Vec F S512x2048 .f32
  | 0, hn => k0_pay2 (iblk0 V c 0 ⟨0, hn⟩) (iblk0 V c 1 ⟨0, hn⟩) (iblk0 V c 2 ⟨0, hn⟩) (k0_pay1 (F := F)) (iblk0 V c 3 ⟨0, hn⟩)
  | n + 1, hn => k0_pay2 (iblk0 V c 0 ⟨n + 1, hn⟩) (iblk0 V c 1 ⟨n + 1, hn⟩) (iblk0 V c 2 ⟨n + 1, hn⟩) (acc0 c n (Nat.lt_of_succ_lt hn)) (iblk0 V c 3 ⟨n + 1, hn⟩)

/-- The accumulator after the first point. -/
theorem acc0_zero (c : Dev nD) (t : Fin cfg0.N) (h : t.val = 0) :
    acc0 V c t.val t.isLt = k0_pay2 (iblk0 V c 0 t) (iblk0 V c 1 t) (iblk0 V c 2 t) (k0_pay1 (F := F)) (iblk0 V c 3 t) := by
  obtain ⟨n, hn⟩ := t
  obtain rfl : n = 0 := h
  rfl

/-- The accumulator after a later point. -/
theorem acc0_next (c : Dev nD) (t : Fin cfg0.N) (h : ¬t.val = 0) :
    acc0 V c t.val t.isLt = k0_pay2 (iblk0 V c 0 t) (iblk0 V c 1 t) (iblk0 V c 2 t)
      (acc0 V c (t.val - 1) (Nat.lt_of_le_of_lt (Nat.sub_le _ _) t.isLt)) (iblk0 V c 3 t) := by
  obtain ⟨n, hn⟩ := t
  cases n with
  | zero => exact absurd rfl h
  | succ n => rfl

/-- The call's data: the arrays as entered, each input buffer left at its block, the output buffer at the accumulator. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (acc0 V c t.val t.isLt)
  Φ _ := Pipeline.ΦA spec0 c
  q _ := fullShare
  owed _ := 0

/-- The data's arrays are the entered ones. -/
theorem A_eq0 (c : Dev nD) (w : Fin cfg0.W) : (dat0 V c).A w = V c (Pipeline.arrRef spec0 w) := by
  dsimp only [dat0]

/-! What the body leaves, window by window. -/
/-- The tokens are unchanged by the body. -/
theorem after0_0 (c : Dev nD) (t : Fin cfg0.N) : (dat0 V c).after 0 t = iblk0 V c 0 t := by dsimp only [dat0]
/-- The gate block is unchanged by the body. -/
theorem after0_1 (c : Dev nD) (t : Fin cfg0.N) : (dat0 V c).after 1 t = iblk0 V c 1 t := by dsimp only [dat0]
/-- The up block is unchanged by the body. -/
theorem after0_2 (c : Dev nD) (t : Fin cfg0.N) : (dat0 V c).after 2 t = iblk0 V c 2 t := by dsimp only [dat0]
/-- The down block is unchanged by the body. -/
theorem after0_3 (c : Dev nD) (t : Fin cfg0.N) : (dat0 V c).after 3 t = iblk0 V c 3 t := by dsimp only [dat0]
/-- The output block ends a step as the running sum up to that step. -/
theorem after0_4 (c : Dev nD) (t : Fin cfg0.N) : (dat0 V c).after 4 t = acc0 V c t.val t.isLt := by dsimp only [dat0]

/-! Each input's buffer holds its block at every point, fetched there or not. -/
/-- Each step starts from the tokens. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
/-- Each step starts from its own gate block. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
/-- Each step starts from its own up block. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
/-- Each step starts from its own down block. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- At a later point the output's buffer holds what the point before left. -/
theorem before0_4 (c : Dev nD) (t : Fin cfg0.N) (h0 : ¬t.val = 0) (d) :
    (dat0 V c).before 4 t d = acc0 V c (t.val - 1) (Nat.lt_of_le_of_lt (Nat.sub_le _ _) t.isLt) := by
  have hN : t.val < 4 := lt_of_lt_of_eq t.isLt (show cfg0.N = 4 from N_0)
  rw [Dat.before_out_kept _ 4 rfl t (by omega) (Bool.eq_false_iff.mpr fun h => by have := (flush0_4 _).mp h; dsimp only at this; omega)
    (fun _ => rfl) (fun _ _ => rfl)]
  dsimp only [dat0]

/-- What the body is called with at a point, window by window. -/
def bodyPre0 (c : Dev nD) (t : Fin cfg0.N) : sProp 𝕄 :=
  iprop((dat0 V c).Φ t.castSucc ∗ (dat0 V c).owesAt () t.castSucc
    ∗ (∃ d, owns (c : Thread nD τ) ((cfg0.win 0).stage (cfg0.slots t 0)) fullShare ((dat0 V c).before 0 t d))
    ∗ (∃ d, owns (c : Thread nD τ) ((cfg0.win 1).stage (cfg0.slots t 1)) fullShare ((dat0 V c).before 1 t d))
    ∗ (∃ d, owns (c : Thread nD τ) ((cfg0.win 2).stage (cfg0.slots t 2)) fullShare ((dat0 V c).before 2 t d))
    ∗ (∃ d, owns (c : Thread nD τ) ((cfg0.win 3).stage (cfg0.slots t 3)) fullShare ((dat0 V c).before 3 t d))
    ∗ (∃ d, owns (c : Thread nD τ) ((cfg0.win 4).stage (cfg0.slots t 4)) fullShare ((dat0 V c).before 4 t d)))

/-- What the body returns at a point, window by window. -/
def bodyPost0 (c : Dev nD) (t : Fin cfg0.N) : sProp 𝕄 :=
  iprop((dat0 V c).Φ t.succ ∗ (dat0 V c).owesAt () t.succ
    ∗ owns (c : Thread nD τ) ((cfg0.win 0).stage (cfg0.slots t 0)) fullShare ((dat0 V c).after 0 t)
    ∗ owns (c : Thread nD τ) ((cfg0.win 1).stage (cfg0.slots t 1)) fullShare ((dat0 V c).after 1 t)
    ∗ owns (c : Thread nD τ) ((cfg0.win 2).stage (cfg0.slots t 2)) fullShare ((dat0 V c).after 2 t)
    ∗ owns (c : Thread nD τ) ((cfg0.win 3).stage (cfg0.slots t 3)) fullShare ((dat0 V c).after 3 t)
    ∗ owns (c : Thread nD τ) ((cfg0.win 4).stage (cfg0.slots t 4)) fullShare ((dat0 V c).after 4 t))

set_option maxHeartbeats 800000 in
/-- The body at any point takes what it is called with to what it returns. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val = 0
  · rw [acc0_zero V c t h0]
    iintro ⟨HΦ, Ho, ⟨%d0, H0⟩, ⟨%d1, H1⟩, ⟨%d2, H2⟩, ⟨%d3, H3⟩, ⟨%d4, H4⟩⟩
    iapply (shared_first c (grid0.coords t) _ _ _ _ _ _ _ _ _ _ ((first0_iff t).mpr h0) (iblk0 V c 0 t) (iblk0 V c 1 t) (iblk0 V c 2 t) (iblk0 V c 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc0_next V c t h0]
    simp only [before0_4 V c t h0]
    iintro ⟨HΦ, Ho, ⟨%d0, H0⟩, ⟨%d1, H1⟩, ⟨%d2, H2⟩, ⟨%d3, H3⟩, ⟨%d4, H4⟩⟩
    iapply (shared_next c (grid0.coords t) _ _ _ _ _ _ _ _ _ _ (fun h => h0 ((first0_iff t).mp h)) (iblk0 V c 0 t) (iblk0 V c 1 t) (iblk0 V c 2 t) (iblk0 V c 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body table's row at a point's buffers is the body there. -/
theorem defs₀_row0 (t : Fin cfg0.N) :
    defs₀ (F := F) .tc cfg0.body (cfg0.bodyArgs t (cfg0.slots t)) = bodyAt0 t := by
  unfold defs₀; rw [Defs.onTc_tc]

/-- The call's body meets its obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Own

end
-- ==== Proof.KernelIdeal.Body1.lean ====
/- One grid point of the expert call (`_expert_kernel`), run on any staging buffers and scratch. The first point sets
   the output and the routing table; every even point builds the selection matrix, the selected rows and the first
   half of the expert's rows; every odd point adds the expert's rows to the output. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's second and third branches: the second grid coordinate is zero. -/
abbrev even1 (i : grid1.Coords) : Prop :=
  (Scalar.cmpi .ne (Scalar.extui (Scalar.cmpi .eq (BitVec.ofNat 32 (i 1).val) 0#32)) 0#32) = 1#1

/-- The first branch is taken at the first point only. -/
theorem start1_iff (t : Fin cfg1.N) : k1_cond1 (grid1.coords t) = 1#1 ↔ t.val = 0 :=
  (fun (t : Fin grid1.N) => by
    have ht : t.val < 32 := Nat.lt_of_lt_of_eq t.isLt N_1
    have e0 : (grid1.coords t 0).val = t.val / 2 % 16 := Pipeline.Grid.coords_val t 0 (by decide) rfl
    have e1 : (grid1.coords t 1).val = t.val / 1 % 2 := Pipeline.Grid.coords_val t 1 (by decide) rfl
    have : t.val = 0 ↔ t.val % 32 = 0 := by omega
    rw [this]
    simp only [k1_cond1, e0, e1]
    word_cmp
   : ∀ t : Fin grid1.N, k1_cond1 (grid1.coords t) = 1#1 ↔ t.val = 0) t

/-- The second and third branches are taken at the even points. -/
theorem even1_iff (t : Fin cfg1.N) : even1 (grid1.coords t) ↔ t.val % 2 = 0 :=
  (fun (t : Fin grid1.N) => by
    have ht : t.val < 32 := Nat.lt_of_lt_of_eq t.isLt N_1
    have e1 : (grid1.coords t 1).val = t.val / 1 % 2 := Pipeline.Grid.coords_val t 1 (by decide) rfl
    simp only [even1, e1]
    word_cmp
   : ∀ t : Fin grid1.N, even1 (grid1.coords t) ↔ t.val % 2 = 0) t

/-- The last branch is taken at the odd points. -/
theorem odd1_iff (t : Fin cfg1.N) : k1_cond4 (grid1.coords t) = 1#1 ↔ t.val % 2 = 1 :=
  (fun (t : Fin grid1.N) => by
    have ht : t.val < 32 := Nat.lt_of_lt_of_eq t.isLt N_1
    have e1 : (grid1.coords t 1).val = t.val / 1 % 2 := Pipeline.Grid.coords_val t 1 (by decide) rfl
    simp only [k1_cond4, e1]
    word_cmp
   : ∀ t : Fin grid1.N, k1_cond4 (grid1.coords t) = 1#1 ↔ t.val % 2 = 1) t

/-- Equal arguments, equal values: a function of two arguments. -/
theorem eq2 {α β ζ : Type _} {f : α → β → ζ} {a a' : α} {b b' : β} (ha : a = a') (hb : b = b') : f a b = f a' b' := by
  subst ha hb; rfl

/-- The same at four arguments. -/
theorem eq4 {α β γ δ ζ : Type _} {f : α → β → γ → δ → ζ} {a a' : α} {b b' : β} {c c' : γ} {d d' : δ}
    (ha : a = a') (hb : b = b') (hc : c = c') (hd : d = d') : f a b c d = f a' b' c' d' := by
  subst ha hb hc hd; rfl

/-- The same at seven arguments. -/
theorem eq7 {α β γ δ ε η θ ζ : Type _} {f : α → β → γ → δ → ε → η → θ → ζ} {a a' : α} {b b' : β} {c c' : γ} {d d' : δ}
    {e e' : ε} {h h' : η} {k k' : θ} (ha : a = a') (hb : b = b') (hc : c = c') (hd : d = d') (he : e = e') (hh : h = h')
    (hk : k = k') : f a b c d e h k = f a' b' c' d' e' h' k' := by
  subst ha hb hc hd he hh hk; rfl

set_option maxHeartbeats 1000000 in
/-- The first point. -/
theorem expert_start (c : Dev nD) (i : grid1.Coords) (arg2 : Memref sig .tc .vmem S512x2048 .f32) (harg2 : arg2.IsWhole) (arg3 : Memref sig .tc .vmem S16x2048 .f32) (harg3 : arg3.IsWhole) (arg4 : Memref sig .tc .vmem S512x2048 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S1x2048x512 .f32) (harg7 : arg7.IsWhole) (arg8 : Memref sig .tc .vmem S512x2048 .f32) (harg8 : arg8.IsWhole) (arg9 : Memref sig .tc .vmem S512x8 .f32) (harg9 : arg9.IsWhole) (arg10 : Memref sig .tc .vmem S256x2048 .bf16) (harg10 : arg10.IsWhole) (arg11 : Memref sig .tc .vmem S512x256 .bf16) (harg11 : arg11.IsWhole) (arg12 : Memref sig .tc .vmem S256x2048 .f32) (harg12 : arg12.IsWhole) (hc1 : k1_cond1 i = 1#1) (hc2 : even1 i) (hc4 : ¬k1_cond4 i = 1#1)
    (x0 : Vec F S512x2048 .f32) (x1 : Vec F S16x2048 .f32) (x2 : Vec F S512x2048 .f32) (x3 : Vec F S1x512x2048 .f32) (x4 : Vec F S1x512x2048 .f32) (x5 : Vec F S1x2048x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k1_pay1 x2) ∗ owns (c : Thread nD τ) arg9 fullShare (k1_pay12 (k1_pay4 x0 x1) (k1_pay5 x0 x1) (k1_pay7 x0 x1) (k1_pay8 x0 x1) (k1_pay9 x0 x1) (k1_pay10 x0 x1) (k1_pay11 x0 x1)) ∗ owns (c : Thread nD τ) arg10 fullShare (k1_pay18 i (k1_pay12 (k1_pay4 x0 x1) (k1_pay5 x0 x1) (k1_pay7 x0 x1) (k1_pay8 x0 x1) (k1_pay9 x0 x1) (k1_pay10 x0 x1) (k1_pay11 x0 x1)) x0) ∗ owns (c : Thread nD τ) arg11 fullShare (k1_pay17 i (k1_pay12 (k1_pay4 x0 x1) (k1_pay5 x0 x1) (k1_pay7 x0 x1) (k1_pay8 x0 x1) (k1_pay9 x0 x1) (k1_pay10 x0 x1) (k1_pay11 x0 x1))) ∗ owns (c : Thread nD τ) arg12 fullShare (k1_pay20 x3 x4 x5 (k1_pay18 i (k1_pay12 (k1_pay4 x0 x1) (k1_pay5 x0 x1) (k1_pay7 x0 x1) (k1_pay8 x0 x1) (k1_pay9 x0 x1) (k1_pay10 x0 x1) (k1_pay11 x0 x1)) x0))) -∗ K ⟨⟩))
      ⊢ wp frame (wpE (defs₀ (F := F)) Variants.none c none) E (cc1__expert_kernel i arg2 harg2 arg3 harg3 arg4 harg4 arg5 harg5 arg6 harg6 arg7 harg7 arg8 harg8 arg9 harg9 arg10 harg10 arg11 harg11 arg12 harg12) K := by
  simp only [cc1__expert_kernel_eq_skeleton]; unfold cc1__expert_kernel_skel
  simp only [k1_part2_eq_skeleton]; unfold k1_part2_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc1 | sl_exact hc2 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_full _ _ _ _ _).trans ?_
    exact congrArg k1_pay1 ((View.readAt_full _ _ _).trans (harg4.read_unread _))
  isplitl [H7]
  · iexists _; isplitr
    swap; · iexact H7
    ipureintro
    unfold expert_start.sl.H7_1
    refine (View.read_writes_full _ _ _ _ _).trans ?_
    exact eq7 (f := k1_pay12 (F := F)) (eq2 (f := k1_pay4 (F := F)) ((View.readAt_full _ _ _).trans (harg2.read_unread _)) ((View.readAt_full _ _ _).trans (harg3.read_unread _))) (eq2 (f := k1_pay5 (F := F)) ((View.readAt_full _ _ _).trans (harg2.read_unread _)) ((View.readAt_full _ _ _).trans (harg3.read_unread _))) (eq2 (f := k1_pay7 (F := F)) ((View.readAt_full _ _ _).trans (harg2.read_unread _)) ((View.readAt_full _ _ _).trans (harg3.read_unread _))) (eq2 (f := k1_pay8 (F := F)) ((View.readAt_full _ _ _).trans (harg2.read_unread _)) ((View.readAt_full _ _ _).trans (harg3.read_unread _))) (eq2 (f := k1_pay9 (F := F)) ((View.readAt_full _ _ _).trans (harg2.read_unread _)) ((View.readAt_full _ _ _).trans (harg3.read_unread _))) (eq2 (f := k1_pay10 (F := F)) ((View.readAt_full _ _ _).trans (harg2.read_unread _)) ((View.readAt_full _ _ _).trans (harg3.read_unread _))) (eq2 (f := k1_pay11 (F := F)) ((View.readAt_full _ _ _).trans (harg2.read_unread _)) ((View.readAt_full _ _ _).trans (harg3.read_unread _)))
  isplitl [H8]
  · iexists _; isplitr
    swap; · iexact H8
    ipureintro
    unfold expert_start.sl.H8_1
    refine (View.read_writes_full _ _ _ _ _).trans ?_
    refine eq2 (f := k1_pay18 (F := F) i) ?_ ((View.readAt_full _ _ _).trans (harg2.read_unread _))
    unfold expert_start.sl.v31
    refine (View.readCov_full _ _ _ _ _).trans ?_
    exact eq7 (f := k1_pay12 (F := F)) (eq2 (f := k1_pay4 (F := F)) ((View.readAt_full _ _ _).trans (harg2.read_unread _)) ((View.readAt_full _ _ _).trans (harg3.read_unread _))) (eq2 (f := k1_pay5 (F := F)) ((View.readAt_full _ _ _).trans (harg2.read_unread _)) ((View.readAt_full _ _ _).trans (harg3.read_unread _))) (eq2 (f := k1_pay7 (F := F)) ((View.readAt_full _ _ _).trans (harg2.read_unread _)) ((View.readAt_full _ _ _).trans (harg3.read_unread _))) (eq2 (f := k1_pay8 (F := F)) ((View.readAt_full _ _ _).trans (harg2.read_unread _)) ((View.readAt_full _ _ _).trans (harg3.read_unread _))) (eq2 (f := k1_pay9 (F := F)) ((View.readAt_full _ _ _).trans (harg2.read_unread _)) ((View.readAt_full _ _ _).trans (harg3.read_unread _))) (eq2 (f := k1_pay10 (F := F)) ((View.readAt_full _ _ _).trans (harg2.read_unread _)) ((View.readAt_full _ _ _).trans (harg3.read_unread _))) (eq2 (f := k1_pay11 (F := F)) ((View.readAt_full _ _ _).trans (harg2.read_unread _)) ((View.readAt_full _ _ _).trans (harg3.read_unread _)))
  isplitl [H9]
  · iexists _; isplitr
    swap; · iexact H9
    ipureintro
    refine (View.read_writes_full _ _ _ _ _).trans ?_
    refine congrArg (k1_pay17 i) ?_
    unfold expert_start.sl.v31
    refine (View.readCov_full _ _ _ _ _).trans ?_
    exact eq7 (f := k1_pay12 (F := F)) (eq2 (f := k1_pay4 (F := F)) ((View.readAt_full _ _ _).trans (harg2.read_unread _)) ((View.readAt_full _ _ _).trans (harg3.read_unread _))) (eq2 (f := k1_pay5 (F := F)) ((View.readAt_full _ _ _).trans (harg2.read_unread _)) ((View.readAt_full _ _ _).trans (harg3.read_unread _))) (eq2 (f := k1_pay7 (F := F)) ((View.readAt_full _ _ _).trans (harg2.read_unread _)) ((View.readAt_full _ _ _).trans (harg3.read_unread _))) (eq2 (f := k1_pay8 (F := F)) ((View.readAt_full _ _ _).trans (harg2.read_unread _)) ((View.readAt_full _ _ _).trans (harg3.read_unread _))) (eq2 (f := k1_pay9 (F := F)) ((View.readAt_full _ _ _).trans (harg2.read_unread _)) ((View.readAt_full _ _ _).trans (harg3.read_unread _))) (eq2 (f := k1_pay10 (F := F)) ((View.readAt_full _ _ _).trans (harg2.read_unread _)) ((View.readAt_full _ _ _).trans (harg3.read_unread _))) (eq2 (f := k1_pay11 (F := F)) ((View.readAt_full _ _ _).trans (harg2.read_unread _)) ((View.readAt_full _ _ _).trans (harg3.read_unread _)))
  iexists _; isplitr
  swap; · iexact H10
  ipureintro
  refine (View.read_writes_full _ _ _ _ _).trans ?_
  refine eq4 (f := k1_pay20 (F := F)) ((View.readAt_full _ _ _).trans (harg5.read_unread _)) ((View.readAt_full _ _ _).trans (harg6.read_unread _)) ((View.readAt_full _ _ _).trans (harg7.read_unread _)) ?_
  unfold expert_start.sl.v17
  refine (View.readCov_full _ _ _ _ _).trans ?_
  refine eq2 (f := k1_pay18 (F := F) i) ?_ ((View.readAt_full _ _ _).trans (harg2.read_unread _))
  unfold expert_start.sl.v31
  refine (View.readCov_full _ _ _ _ _).trans ?_
  exact eq7 (f := k1_pay12 (F := F)) (eq2 (f := k1_pay4 (F := F)) ((View.readAt_full _ _ _).trans (harg2.read_unread _)) ((View.readAt_full _ _ _).trans (harg3.read_unread _))) (eq2 (f := k1_pay5 (F := F)) ((View.readAt_full _ _ _).trans (harg2.read_unread _)) ((View.readAt_full _ _ _).trans (harg3.read_unread _))) (eq2 (f := k1_pay7 (F := F)) ((View.readAt_full _ _ _).trans (harg2.read_unread _)) ((View.readAt_full _ _ _).trans (harg3.read_unread _))) (eq2 (f := k1_pay8 (F := F)) ((View.readAt_full _ _ _).trans (harg2.read_unread _)) ((View.readAt_full _ _ _).trans (harg3.read_unread _))) (eq2 (f := k1_pay9 (F := F)) ((View.readAt_full _ _ _).trans (harg2.read_unread _)) ((View.readAt_full _ _ _).trans (harg3.read_unread _))) (eq2 (f := k1_pay10 (F := F)) ((View.readAt_full _ _ _).trans (harg2.read_unread _)) ((View.readAt_full _ _ _).trans (harg3.read_unread _))) (eq2 (f := k1_pay11 (F := F)) ((View.readAt_full _ _ _).trans (harg2.read_unread _)) ((View.readAt_full _ _ _).trans (harg3.read_unread _)))

set_option maxHeartbeats 1000000 in
/-- A later even point: the output and the routing table stay. -/
theorem expert_even (c : Dev nD) (i : grid1.Coords) (arg2 : Memref sig .tc .vmem S512x2048 .f32) (harg2 : arg2.IsWhole) (arg3 : Memref sig .tc .vmem S16x2048 .f32) (harg3 : arg3.IsWhole) (arg4 : Memref sig .tc .vmem S512x2048 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S1x2048x512 .f32) (harg7 : arg7.IsWhole) (arg8 : Memref sig .tc .vmem S512x2048 .f32) (harg8 : arg8.IsWhole) (arg9 : Memref sig .tc .vmem S512x8 .f32) (harg9 : arg9.IsWhole) (arg10 : Memref sig .tc .vmem S256x2048 .bf16) (harg10 : arg10.IsWhole) (arg11 : Memref sig .tc .vmem S512x256 .bf16) (harg11 : arg11.IsWhole) (arg12 : Memref sig .tc .vmem S256x2048 .f32) (harg12 : arg12.IsWhole) (hc1 : ¬k1_cond1 i = 1#1) (hc2 : even1 i) (hc4 : ¬k1_cond4 i = 1#1)
    (x0 : Vec F S512x2048 .f32) (x1 : Vec F S16x2048 .f32) (x2 : Vec F S512x2048 .f32) (x3 : Vec F S1x512x2048 .f32) (x4 : Vec F S1x512x2048 .f32) (x5 : Vec F S1x2048x512 .f32) (o : Vec F S512x2048 .f32) (m : Vec F S512x8 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o ∗ owns (c : Thread nD τ) arg9 fullShare m ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o ∗ owns (c : Thread nD τ) arg9 fullShare m ∗ owns (c : Thread nD τ) arg10 fullShare (k1_pay18 i m x0) ∗ owns (c : Thread nD τ) arg11 fullShare (k1_pay17 i m) ∗ owns (c : Thread nD τ) arg12 fullShare (k1_pay20 x3 x4 x5 (k1_pay18 i m x0))) -∗ K ⟨⟩))
      ⊢ wp frame (wpE (defs₀ (F := F)) Variants.none c none) E (cc1__expert_kernel i arg2 harg2 arg3 harg3 arg4 harg4 arg5 harg5 arg6 harg6 arg7 harg7 arg8 harg8 arg9 harg9 arg10 harg10 arg11 harg11 arg12 harg12) K := by
  simp only [cc1__expert_kernel_eq_skeleton]; unfold cc1__expert_kernel_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc1 | sl_exact hc2 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    refine (View.read_writes_full _ _ _ _ _).trans ?_
    exact eq2 (f := k1_pay18 (F := F) i) ((View.readAt_full _ _ _).trans (harg9.read_unread _)) ((View.readAt_full _ _ _).trans (harg2.read_unread _))
  isplitl [H9]
  · iexists _; isplitr
    swap; · iexact H9
    ipureintro
    refine (View.read_writes_full _ _ _ _ _).trans ?_
    exact congrArg (k1_pay17 i) ((View.readAt_full _ _ _).trans (harg9.read_unread _))
  iexists _; isplitr
  swap; · iexact H10
  ipureintro
  refine (View.read_writes_full _ _ _ _ _).trans ?_
  refine eq4 (f := k1_pay20 (F := F)) ((View.readAt_full _ _ _).trans (harg5.read_unread _)) ((View.readAt_full _ _ _).trans (harg6.read_unread _)) ((View.readAt_full _ _ _).trans (harg7.read_unread _)) ?_
  unfold expert_even.sl.v17
  refine (View.readCov_full _ _ _ _ _).trans ?_
  exact eq2 (f := k1_pay18 (F := F) i) ((View.readAt_full _ _ _).trans (harg9.read_unread _)) ((View.readAt_full _ _ _).trans (harg2.read_unread _))

set_option maxHeartbeats 1000000 in
/-- An odd point: the expert's rows are added to the output, everything else stays. -/
theorem expert_odd (c : Dev nD) (i : grid1.Coords) (arg2 : Memref sig .tc .vmem S512x2048 .f32) (harg2 : arg2.IsWhole) (arg3 : Memref sig .tc .vmem S16x2048 .f32) (harg3 : arg3.IsWhole) (arg4 : Memref sig .tc .vmem S512x2048 .f32) (harg4 : arg4.IsWhole) (arg5 : Memref sig .tc .vmem S1x512x2048 .f32) (harg5 : arg5.IsWhole) (arg6 : Memref sig .tc .vmem S1x512x2048 .f32) (harg6 : arg6.IsWhole) (arg7 : Memref sig .tc .vmem S1x2048x512 .f32) (harg7 : arg7.IsWhole) (arg8 : Memref sig .tc .vmem S512x2048 .f32) (harg8 : arg8.IsWhole) (arg9 : Memref sig .tc .vmem S512x8 .f32) (harg9 : arg9.IsWhole) (arg10 : Memref sig .tc .vmem S256x2048 .bf16) (harg10 : arg10.IsWhole) (arg11 : Memref sig .tc .vmem S512x256 .bf16) (harg11 : arg11.IsWhole) (arg12 : Memref sig .tc .vmem S256x2048 .f32) (harg12 : arg12.IsWhole) (hc1 : ¬k1_cond1 i = 1#1) (hc2 : ¬even1 i) (hc4 : k1_cond4 i = 1#1)
    (x0 : Vec F S512x2048 .f32) (x1 : Vec F S16x2048 .f32) (x2 : Vec F S512x2048 .f32) (x3 : Vec F S1x512x2048 .f32) (x4 : Vec F S1x512x2048 .f32) (x5 : Vec F S1x2048x512 .f32) (o : Vec F S512x2048 .f32) (m : Vec F S512x8 .f32) (xb : Vec F S256x2048 .bf16) (ws : Vec F S512x256 .bf16) (yb : Vec F S256x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o ∗ owns (c : Thread nD τ) arg9 fullShare m ∗ owns (c : Thread nD τ) arg10 fullShare xb ∗ owns (c : Thread nD τ) arg11 fullShare ws ∗ owns (c : Thread nD τ) arg12 fullShare yb
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k1_pay21 x3 x4 x5 xb yb o ws) ∗ owns (c : Thread nD τ) arg9 fullShare m ∗ owns (c : Thread nD τ) arg10 fullShare xb ∗ owns (c : Thread nD τ) arg11 fullShare ws ∗ owns (c : Thread nD τ) arg12 fullShare yb) -∗ K ⟨⟩))
      ⊢ wp frame (wpE (defs₀ (F := F)) Variants.none c none) E (cc1__expert_kernel i arg2 harg2 arg3 harg3 arg4 harg4 arg5 harg5 arg6 harg6 arg7 harg7 arg8 harg8 arg9 harg9 arg10 harg10 arg11 harg11 arg12 harg12) K := by
  simp only [cc1__expert_kernel_eq_skeleton]; unfold cc1__expert_kernel_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc1 | sl_exact hc2 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_full _ _ _ _ _).trans ?_
    exact eq7 (f := k1_pay21 (F := F)) ((View.readAt_full _ _ _).trans (harg5.read_unread _)) ((View.readAt_full _ _ _).trans (harg6.read_unread _)) ((View.readAt_full _ _ _).trans (harg7.read_unread _)) ((View.readAt_full _ _ _).trans (harg10.read_unread _)) ((View.readAt_full _ _ _).trans (harg12.read_unread _)) ((View.readAt_full _ _ _).trans (harg8.read_unread _)) ((View.readAt_full _ _ _).trans (harg11.read_unread _))
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  iexists _; isplitr; · ipureintro; exact harg12.read_unread _
  iexact H10

end Cert.KernelIdeal.Own

end
-- ==== Proof.KernelIdeal.Region1.lean ====
/- The expert call (`_expert_kernel`) point by point: what each staging buffer and each scratch buffer holds before and
   after the body, at any contents of the buffers the call is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp
public import proofs.«01_k».proof.Proof.KernelIdeal.Body1

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-- A window's block at a point, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The even point of a point's pair: where the pair's expert begins. -/
def evenPt (t : Fin cfg1.N) : Fin cfg1.N := ⟨2 * (t.val / 2), by omega⟩

/-- An even point begins its own pair. -/
theorem evenPt_even (t : Fin cfg1.N) (h : t.val % 2 = 0) : evenPt t = t := Fin.ext (by simp only [evenPt]; omega)

/-- An odd point's pair begins where the pair of the point before does. -/
theorem evenPt_odd (t : Fin cfg1.N) (h : t.val % 2 = 1) : evenPt t = evenPt ⟨t.val - 1, by omega⟩ :=
  Fin.ext (by simp only [evenPt]; omega)

/-- The first point. -/
def pt0 : Fin cfg1.N := ⟨0, by decide⟩

/-- The routing table the first point leaves in scratch. -/
def metaV (c : Dev nD) : Vec F S512x8 .f32 :=
  k1_pay12 (k1_pay4 (iblk1 V c 0 pt0) (iblk1 V c 1 pt0)) (k1_pay5 (iblk1 V c 0 pt0) (iblk1 V c 1 pt0)) (k1_pay7 (iblk1 V c 0 pt0) (iblk1 V c 1 pt0)) (k1_pay8 (iblk1 V c 0 pt0) (iblk1 V c 1 pt0)) (k1_pay9 (iblk1 V c 0 pt0) (iblk1 V c 1 pt0)) (k1_pay10 (iblk1 V c 0 pt0) (iblk1 V c 1 pt0)) (k1_pay11 (iblk1 V c 0 pt0) (iblk1 V c 1 pt0))

/-- The selection matrix of a point's expert. -/
def wselAt (c : Dev nD) (t : Fin cfg1.N) : Vec F S512x256 .bf16 := k1_pay17 (grid1.coords (evenPt t)) (metaV V c)

/-- The rows selected for a point's expert. -/
def xbbAt (c : Dev nD) (t : Fin cfg1.N) : Vec F S256x2048 .bf16 :=
  k1_pay18 (grid1.coords (evenPt t)) (metaV V c) (iblk1 V c 0 (evenPt t))

/-- The first half of the expert's rows. -/
def ybAt (c : Dev nD) (t : Fin cfg1.N) : Vec F S256x2048 .f32 :=
  k1_pay20 (iblk1 V c 3 (evenPt t)) (iblk1 V c 4 (evenPt t)) (iblk1 V c 5 (evenPt t)) (xbbAt V c t)

/-- The output after the point at a position: the third operand's block at first, then one expert's rows more at every odd
    point. -/
def outAt (c : Dev nD) : (n : ℕ) → n < cfg1.N → Vec F S512x2048 .f32
  | 0, hn => k1_pay1 (iblk1 V c 2 ⟨0, hn⟩)
  | n + 1, hn =>
    if (n + 1) % 2 = 1 then
      k1_pay21 (iblk1 V c 3 ⟨n + 1, hn⟩) (iblk1 V c 4 ⟨n + 1, hn⟩) (iblk1 V c 5 ⟨n + 1, hn⟩) (xbbAt V c ⟨n + 1, hn⟩)
        (ybAt V c ⟨n + 1, hn⟩) (outAt c n (Nat.lt_of_succ_lt hn)) (wselAt V c ⟨n + 1, hn⟩)
    else outAt c n (Nat.lt_of_succ_lt hn)

/-- The output after the first point. -/
theorem outAt_zero (c : Dev nD) (t : Fin cfg1.N) (h : t.val = 0) : outAt V c t.val t.isLt = k1_pay1 (iblk1 V c 2 t) := by
  obtain ⟨n, hn⟩ := t
  obtain rfl : n = 0 := h
  rfl

/-- The output after a later even point is what it was. -/
theorem outAt_even (c : Dev nD) (t : Fin cfg1.N) (h : ¬t.val = 0) (h2 : t.val % 2 = 0) :
    outAt V c t.val t.isLt = outAt V c (t.val - 1) (Nat.lt_of_le_of_lt (Nat.sub_le _ _) t.isLt) := by
  obtain ⟨n, hn⟩ := t
  cases n with
  | zero => exact absurd rfl h
  | succ n => rw [outAt, if_neg (by dsimp only at h2; omega)]; rfl

/-- The output after an odd point is the expert's rows added to what it was. -/
theorem outAt_step (c : Dev nD) (t : Fin cfg1.N) (h2 : t.val % 2 = 1) :
    outAt V c t.val t.isLt = k1_pay21 (iblk1 V c 3 t) (iblk1 V c 4 t) (iblk1 V c 5 t) (xbbAt V c t) (ybAt V c t)
      (outAt V c (t.val - 1) (Nat.lt_of_le_of_lt (Nat.sub_le _ _) t.isLt)) (wselAt V c t) := by
  obtain ⟨n, hn⟩ := t
  cases n with
  | zero => exact absurd h2 (by simp)
  | succ n => rw [outAt, if_pos (by dsimp only at h2; omega)]; rfl

/-! The scratch buffers at an even point, computed from that point's blocks; at an odd one, as the point before left them. -/
/-- At an even step the combine weights are computed afresh. -/
theorem wselAt_even (c : Dev nD) (t : Fin cfg1.N) (h : t.val % 2 = 0) : wselAt V c t = k1_pay17 (grid1.coords t) (metaV V c) := by
  rw [wselAt, evenPt_even t h]
/-- At an even step the gathered rows are computed afresh. -/
theorem xbbAt_even (c : Dev nD) (t : Fin cfg1.N) (h : t.val % 2 = 0) :
    xbbAt V c t = k1_pay18 (grid1.coords t) (metaV V c) (iblk1 V c 0 t) := by
  rw [xbbAt, evenPt_even t h]
/-- At an even step the kept half is that step's own product. -/
theorem ybAt_even (c : Dev nD) (t : Fin cfg1.N) (h : t.val % 2 = 0) :
    ybAt V c t = k1_pay20 (iblk1 V c 3 t) (iblk1 V c 4 t) (iblk1 V c 5 t) (k1_pay18 (grid1.coords t) (metaV V c) (iblk1 V c 0 t)) := by
  rw [ybAt, evenPt_even t h, xbbAt_even V c t h]
/-- An odd step keeps the combine weights of the step before. -/
theorem wselAt_odd (c : Dev nD) (t : Fin cfg1.N) (h : t.val % 2 = 1) : wselAt V c t = wselAt V c ⟨t.val - 1, by omega⟩ := by
  rw [wselAt, evenPt_odd t h]; rfl
/-- An odd step keeps the gathered rows of the step before. -/
theorem xbbAt_odd (c : Dev nD) (t : Fin cfg1.N) (h : t.val % 2 = 1) : xbbAt V c t = xbbAt V c ⟨t.val - 1, by omega⟩ := by
  rw [xbbAt, evenPt_odd t h]; rfl
/-- An odd step keeps the half product of the step before. -/
theorem ybAt_odd (c : Dev nD) (t : Fin cfg1.N) (h : t.val % 2 = 1) : ybAt V c t = ybAt V c ⟨t.val - 1, by omega⟩ := by
  rw [ybAt, evenPt_odd t h, xbbAt_odd V c t h]; rfl
/-- The routing table from the first point's blocks. -/
theorem metaV_zero (c : Dev nD) (t : Fin cfg1.N) (h : t.val = 0) :
    metaV V c = k1_pay12 (k1_pay4 (iblk1 V c 0 t) (iblk1 V c 1 t)) (k1_pay5 (iblk1 V c 0 t) (iblk1 V c 1 t)) (k1_pay7 (iblk1 V c 0 t) (iblk1 V c 1 t)) (k1_pay8 (iblk1 V c 0 t) (iblk1 V c 1 t)) (k1_pay9 (iblk1 V c 0 t) (iblk1 V c 1 t)) (k1_pay10 (iblk1 V c 0 t) (iblk1 V c 1 t)) (k1_pay11 (iblk1 V c 0 t) (iblk1 V c 1 t)) := by
  obtain rfl : t = pt0 := Fin.ext h
  rfl

/-- The staging buffers of the other call, each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f))

/-- Scratch buffer 0. -/
abbrev sc0 : Memref sig .tc .vmem S512x8 .f32 := Memref.whole cc1_scratch0
/-- Scratch buffer 1. -/
abbrev sc1 : Memref sig .tc .vmem S256x2048 .bf16 := Memref.whole cc1_scratch1
/-- Scratch buffer 2. -/
abbrev sc2 : Memref sig .tc .vmem S512x256 .bf16 := Memref.whole cc1_scratch2
/-- Scratch buffer 3. -/
abbrev sc3 : Memref sig .tc .vmem S256x2048 .f32 := Memref.whole cc1_scratch3

/-- The four scratch buffers at given contents beside the rest. -/
abbrev scr (c : Dev nD) (t : Fin cfg1.N) : sProp 𝕄 :=
  iprop(iprop(owns (c : Thread nD τ) sc0 fullShare (metaV V c) ∗ owns (c : Thread nD τ) sc1 fullShare (xbbAt V c t) ∗ owns (c : Thread nD τ) sc2 fullShare (wselAt V c t) ∗ owns (c : Thread nD τ) sc3 fullShare (ybAt V c t) ∗ others (F := F) c) ∗ (∃ r, prngReg c r))

/-- What is held before a position beside the windows: before the first point the scratch at anything, afterwards at what
    the point before left. -/
def PhiS (c : Dev nD) : (n : ℕ) → n ≤ cfg1.N → sProp 𝕄
  | 0, _ => Pipeline.ΦA spec1 c
  | n + 1, hn => scr V c ⟨n, hn⟩

/-- Before the first point. -/
theorem PhiS_zero (c : Dev nD) (n : ℕ) (h : n ≤ cfg1.N) (hz : n = 0) : PhiS V c n h = Pipeline.ΦA spec1 c := by
  subst hz; rfl

/-- Before a later point. -/
theorem PhiS_pos (c : Dev nD) (n : ℕ) (h : n ≤ cfg1.N) (hz : n ≠ 0) : PhiS V c n h = scr V c ⟨n - 1, by omega⟩ := by
  cases n with
  | zero => exact absurd rfl hz
  | succ n => rfl

/-- The scoped buffers beside the windows, the scratch first. -/
theorem PhiA1_eq (c : Dev nD) :
    (Pipeline.ΦA spec1 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ others (F := F) c) ∗ (∃ r, prngReg c r)) := by
  unfold Pipeline.ΦA
  rw [Pipeline.scopedRest_eq_of_list spec1 c [cc1_scratch0, cc1_scratch1, cc1_scratch2, cc1_scratch3, cc0_stg0_0, cc0_stg1_0, cc0_stg1_1, cc0_stg2_0, cc0_stg2_1, cc0_stg3_0, cc0_stg3_1, cc0_stg4_0] (by decide) (by decide)]
  simp only [sc0, sc1, sc2, sc3, owns_whole]; try rfl

/-- The call's data: the arrays as entered, each input buffer left at its block, the output buffer at its running contents. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outAt V c t.val t.isLt)
  Φ t := PhiS V c t.val (Nat.le_of_lt_succ t.isLt)
  q _ := fullShare
  owed _ := 0

/-- The data's arrays are the entered ones. -/
theorem A_eq1 (c : Dev nD) (w : Fin cfg1.W) : (dat1 V c).A w = V c (Pipeline.arrRef spec1 w) := by
  dsimp only [dat1]

/-- The invariant before a point. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-! What the body leaves, window by window. -/
/-- The tokens are unchanged by the body. -/
theorem after1_0 (c : Dev nD) (t : Fin cfg1.N) : (dat1 V c).after 0 t = iblk1 V c 0 t := by dsimp only [dat1]
/-- The router rows are unchanged by the body. -/
theorem after1_1 (c : Dev nD) (t : Fin cfg1.N) : (dat1 V c).after 1 t = iblk1 V c 1 t := by dsimp only [dat1]
/-- The first call's result is unchanged by the body. -/
theorem after1_2 (c : Dev nD) (t : Fin cfg1.N) : (dat1 V c).after 2 t = iblk1 V c 2 t := by dsimp only [dat1]
/-- The w1 block is unchanged by the body. -/
theorem after1_3 (c : Dev nD) (t : Fin cfg1.N) : (dat1 V c).after 3 t = iblk1 V c 3 t := by dsimp only [dat1]
/-- The w3 block is unchanged by the body. -/
theorem after1_4 (c : Dev nD) (t : Fin cfg1.N) : (dat1 V c).after 4 t = iblk1 V c 4 t := by dsimp only [dat1]
/-- The w2 block is unchanged by the body. -/
theorem after1_5 (c : Dev nD) (t : Fin cfg1.N) : (dat1 V c).after 5 t = iblk1 V c 5 t := by dsimp only [dat1]
/-- The output block ends a step as the accumulated output at that step. -/
theorem after1_6 (c : Dev nD) (t : Fin cfg1.N) : (dat1 V c).after 6 t = outAt V c t.val t.isLt := by dsimp only [dat1]

/-! Each input's buffer holds its block at every point, fetched there or not. -/
/-- Each step starts from the tokens. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
/-- Each step starts from the router rows. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
/-- Each step starts from the first call's result. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
/-- Each step starts from its own w1 block. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
/-- Each step starts from its own w3 block. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
/-- Each step starts from its own w2 block. -/
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-- The output's window is left alone at the even points after the first and written at the others. -/
theorem idle1_6 (t : Fin cfg1.N) : cfg1.idle 6 (cfg1.grid.coords t) = true ↔ t.val ≠ 0 ∧ t.val % 2 = 0 := by
  have e : cfg1.idle 6 (cfg1.grid.coords t) = (!(k1_cond1 (grid1.coords t) == 1#1) && !(k1_cond4 (grid1.coords t) == 1#1)) := rfl
  rw [e]
  simp only [Bool.and_eq_true, Bool.not_eq_true', beq_eq_false_iff_ne, ne_eq, start1_iff, odd1_iff]
  omega

/-- The output's buffer holds nothing of the call's only before the first point. -/
theorem fresh1_6 (n : ℕ) (hn : n < cfg1.N) : cfg1.fresh 6 n = (n == 0 || n == 32) := by
  refine Pipeline.Cfg.fresh_tab cfg1 6 (fun n => n == 0 || n == 32) rfl (fun t => ?_) n (Nat.le_of_lt hn)
  have hN : t.val < 32 := lt_of_lt_of_eq t.isLt (show cfg1.N = 32 from N_1)
  rw [Bool.eq_iff_iff, Bool.or_eq_true ((cfg1.win 6).flush t), Bool.and_eq_true (cfg1.idle 6 (cfg1.grid.coords t)), flush1_6, idle1_6]
  simp only [Bool.or_eq_true, beq_iff_eq]
  omega

/-- At a point after the first the output's buffer holds what the point before left. -/
theorem before1_6 (c : Dev nD) (t : Fin cfg1.N) (h0 : ¬t.val = 0) (d) :
    (dat1 V c).before 6 t d = outAt V c (t.val - 1) (Nat.lt_of_le_of_lt (Nat.sub_le _ _) t.isLt) := by
  have hN : t.val < 32 := lt_of_lt_of_eq t.isLt (show cfg1.N = 32 from N_1)
  rw [Dat.before_out_traj (dat1 V c) 6 rfl (fun _ _ => rfl) (fun s hs hi _ => by
      rw [after1_6, after1_6]; exact outAt_even V c s hs ((idle1_6 s).mp hi).2) t.val t rfl d,
    fresh1_6 _ t.isLt, if_neg (by simp only [Bool.or_eq_true, beq_iff_eq]; omega), after1_6]

/-- Where the output is written the body leaves it at its running contents, -/
theorem left_out (c : Dev nD) (t : Fin cfg1.N) (h : t.val = 0 ∨ t.val % 2 = 1) :
    (dat1 V c).leavesExact 6 t = owns (c : Thread nD τ) ((cfg1.win 6).stage (cfg1.slots t 6)) fullShare (outAt V c t.val t.isLt) := by
  have hi : cfg1.idle 6 (cfg1.grid.coords t) = false := Bool.eq_false_iff.mpr fun hi => by
    have := (idle1_6 t).mp hi; omega
  unfold Dat.leavesExact; rw [hi, after1_6]

/-- and elsewhere as the body found it. -/
theorem left_kept (c : Dev nD) (t : Fin cfg1.N) (h0 : ¬t.val = 0) (h2 : t.val % 2 = 0) :
    (dat1 V c).leavesExact 6 t = iprop(∃ d, owns (c : Thread nD τ) ((cfg1.win 6).stage (cfg1.slots t 6)) fullShare ((dat1 V c).before 6 t d)) :=
  Dat.leavesExact_idle _ 6 t ((idle1_6 t).mpr ⟨h0, h2⟩) (Bool.eq_false_iff.mpr fun h => by
    have := (flush1_6 t).mp h; omega)

/-- What the body is called with at a point, window by window. -/
def bodyPre1 (c : Dev nD) (t : Fin cfg1.N) : sProp 𝕄 :=
  iprop((dat1 V c).Φ t.castSucc ∗ (dat1 V c).owesAt () t.castSucc
    ∗ (∃ d, owns (c : Thread nD τ) ((cfg1.win 0).stage (cfg1.slots t 0)) fullShare ((dat1 V c).before 0 t d))
    ∗ (∃ d, owns (c : Thread nD τ) ((cfg1.win 1).stage (cfg1.slots t 1)) fullShare ((dat1 V c).before 1 t d))
    ∗ (∃ d, owns (c : Thread nD τ) ((cfg1.win 2).stage (cfg1.slots t 2)) fullShare ((dat1 V c).before 2 t d))
    ∗ (∃ d, owns (c : Thread nD τ) ((cfg1.win 3).stage (cfg1.slots t 3)) fullShare ((dat1 V c).before 3 t d))
    ∗ (∃ d, owns (c : Thread nD τ) ((cfg1.win 4).stage (cfg1.slots t 4)) fullShare ((dat1 V c).before 4 t d))
    ∗ (∃ d, owns (c : Thread nD τ) ((cfg1.win 5).stage (cfg1.slots t 5)) fullShare ((dat1 V c).before 5 t d))
    ∗ (∃ d, owns (c : Thread nD τ) ((cfg1.win 6).stage (cfg1.slots t 6)) fullShare ((dat1 V c).before 6 t d)))

/-- What the body returns at a point, window by window. -/
def bodyPost1 (c : Dev nD) (t : Fin cfg1.N) : sProp 𝕄 :=
  iprop((dat1 V c).Φ t.succ ∗ (dat1 V c).owesAt () t.succ
    ∗ owns (c : Thread nD τ) ((cfg1.win 0).stage (cfg1.slots t 0)) fullShare ((dat1 V c).after 0 t)
    ∗ owns (c : Thread nD τ) ((cfg1.win 1).stage (cfg1.slots t 1)) fullShare ((dat1 V c).after 1 t)
    ∗ owns (c : Thread nD τ) ((cfg1.win 2).stage (cfg1.slots t 2)) fullShare ((dat1 V c).after 2 t)
    ∗ owns (c : Thread nD τ) ((cfg1.win 3).stage (cfg1.slots t 3)) fullShare ((dat1 V c).after 3 t)
    ∗ owns (c : Thread nD τ) ((cfg1.win 4).stage (cfg1.slots t 4)) fullShare ((dat1 V c).after 4 t)
    ∗ owns (c : Thread nD τ) ((cfg1.win 5).stage (cfg1.slots t 5)) fullShare ((dat1 V c).after 5 t)
    ∗ (dat1 V c).leavesExact 6 t)

set_option maxHeartbeats 1600000 in
/-- The body at any point takes what it is called with to what it returns. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = scr V c t from rfl,
    show (dat1 V c).owesAt () t.succ = (dat1 V c).owesAt () t.castSucc from rfl,
    after1_0, after1_1, after1_2, after1_3, after1_4, after1_5]
  by_cases h0 : t.val = 0
  · rw [PhiS_castSucc, PhiS_zero V c _ _ h0, PhiA1_eq, left_out V c t (Or.inl h0)]
    unfold scr
    rw [outAt_zero V c t h0, xbbAt_even V c t (by omega), wselAt_even V c t (by omega), ybAt_even V c t (by omega), metaV_zero V c t h0]
    iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩⟩
    iapply (expert_start c (grid1.coords t) _ _ _ _ _ _ _ _ _ _ _ _ _ _ _ _ _ _ _ _ _ _ ((start1_iff t).mpr h0) ((even1_iff t).mpr (by omega)) (fun h => by have := (odd1_iff t).mp h; omega) (iblk1 V c 0 t) (iblk1 V c 1 t) (iblk1 V c 2 t) (iblk1 V c 3 t) (iblk1 V c 4 t) (iblk1 V c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 HR Hg]
    · isplitl [HS0 HS1 HS2 HS3 HR]
      · isplitl [HS0]; · iexact HS0
        isplitl [HS1]; · iexact HS1
        isplitl [HS2]; · iexact HS2
        isplitl [HS3]; · iexact HS3
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  by_cases h2 : t.val % 2 = 0
  · rw [PhiS_castSucc, PhiS_pos V c _ _ h0, left_kept V c t h0 h2]
    unfold scr
    rw [xbbAt_even V c t h2, wselAt_even V c t h2, ybAt_even V c t h2]
    simp only [before1_6 V c t h0]
    iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩⟩
    iapply (expert_even c (grid1.coords t) _ _ _ _ _ _ _ _ _ _ _ _ _ _ _ _ _ _ _ _ _ _ (fun h => h0 ((start1_iff t).mp h)) ((even1_iff t).mpr h2) (fun h => by have := (odd1_iff t).mp h; omega) (iblk1 V c 0 t) (iblk1 V c 1 t) (iblk1 V c 2 t) (iblk1 V c 3 t) (iblk1 V c 4 t) (iblk1 V c 5 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexists _; iexact HS1
    isplitl [HS2]; · iexists _; iexact HS2
    isplitl [HS3]; · iexists _; iexact HS3
    iintro ⟨H0, H1, H2, H3, H4, H5, H6, HS0, HS1, HS2, HS3⟩
    isplitl [HS0 HS1 HS2 HS3 HR Hg]
    · isplitl [HS0 HS1 HS2 HS3 HR]
      · isplitl [HS0]; · iexact HS0
        isplitl [HS1]; · iexact HS1
        isplitl [HS2]; · iexact HS2
        isplitl [HS3]; · iexact HS3
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6; iexact H6
  · have h2 : t.val % 2 = 1 := by omega
    rw [PhiS_castSucc, PhiS_pos V c _ _ h0, left_out V c t (Or.inr h2)]
    unfold scr
    rw [outAt_step V c t h2, xbbAt_odd V c t h2, wselAt_odd V c t h2, ybAt_odd V c t h2]
    simp only [before1_6 V c t h0]
    iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩⟩
    iapply (expert_odd c (grid1.coords t) _ _ _ _ _ _ _ _ _ _ _ _ _ _ _ _ _ _ _ _ _ _ (fun h => h0 ((start1_iff t).mp h)) (fun h => by have := (even1_iff t).mp h; omega) ((odd1_iff t).mpr h2) (iblk1 V c 0 t) (iblk1 V c 1 t) (iblk1 V c 2 t) (iblk1 V c 3 t) (iblk1 V c 4 t) (iblk1 V c 5 t) _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 HR Hg]
    · isplitl [HS0 HS1 HS2 HS3 HR]
      · isplitl [HS0]; · iexact HS0
        isplitl [HS1]; · iexact HS1
        isplitl [HS2]; · iexact HS2
        isplitl [HS3]; · iexact HS3
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at a point's buffers is the body there. -/
theorem defs₀_row1 (t : Fin cfg1.N) :
    defs₀ (F := F) .tc cfg1.body (cfg1.bodyArgs t (cfg1.slots t)) = bodyAt1 t := by
  unfold defs₀; rw [Defs.onTc_tc]

/-- The call's body meets its obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the call is entered with beside the windows is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives it back. -/
theorem hout1 (c : Dev nD) : (dat1 V c).Φ (Fin.last cfg1.N) ⊢ Pipeline.ΦA spec1 c := by
  rw [show (dat1 V c).Φ (Fin.last cfg1.N) = PhiS V c cfg1.N (Nat.le_refl _) from rfl, PhiS_pos V c _ _ (by decide), PhiA1_eq]
  iintro ⟨⟨HS0, HS1, HS2, HS3, HR⟩, Hg⟩
  isplitl [HS0 HS1 HS2 HS3 HR]
  · isplitl [HS0]; · iexists _; iexact HS0
    isplitl [HS1]; · iexists _; iexact HS1
    isplitl [HS2]; · iexists _; iexact HS2
    isplitl [HS3]; · iexists _; iexact HS3
    iexact HR
  iexact Hg

end Cert.KernelIdeal.Own

end
-- ==== Proof.KernelIdeal.Run.lean ====
/- The whole program: its host operations and its two calls in order, what every buffer holds between them, and what a
   finished run leaves. -/
module

public import proofs.«01_k».proof.Proof.Gen.KernelIdeal.Launch
public import proofs.«01_k».proof.Proof.Gen.KernelIdeal.Regions
public import proofs.«01_k».proof.Proof.KernelIdeal.Region0
public import proofs.«01_k».proof.Proof.KernelIdeal.Region1
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.KernelIdeal.Own

open Cert.KernelIdeal.Gen hiding V0 V1 V2 V3 V4 segs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7]

/-- Every buffer at launch. -/
abbrev W0 : Dev nD → Valuation τ sig (Elt F) := fun c b => (s₀ m ρ).mem ((c : Dev nD), b)
/-- At the start the arguments hold what memory holds. -/
theorem W0_args (c : Dev nD) : ∀ a ∈ argRefs, W0 m ρ c (Proc.devRef .tc a) = m ((c : Thread nD τ).loc a) := fun _ _ => rfl

/-- Every buffer after the host operation `hostOps0`. -/
def W1 (c : Dev nD) : Valuation τ sig (Elt F) := StableHlo.after hostOps0 (W0 m ρ c)
/-- The first reshape changes only what it writes. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The first reshape writes no argument. -/
theorem hostOps0_args : ∀ a ∈ argRefs, a ∉ hostOps0_W := by decide
/-- The arguments are unchanged after the first reshape. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same at the TensorCore's references. -/
abbrev V1 : (c : Dev nD) → (b : Ref sig .tc) → Buf (Elt F) ((c : Thread nD τ).loc b) := fun c b => W1 m ρ c b

/-- Every buffer after call 0: its arrays at what the write-backs leave, the others as entered. -/
def W2 (c : Dev nD) : Valuation τ sig (Elt F) :=
  Pipeline.withArrays spec0 c (W1 m ρ c) fun w => (dat0 (V1 m ρ) c).arrAt w cfg0.N
/-- After the first call each of its arrays holds what the call's steps left. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- The first call leaves every other buffer alone. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is no output array of the call keeps its contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- The first call writes back to no argument. -/
theorem argsIn0 : ∀ a ∈ argRefs, ∀ w : Fin cfg0.W, Pipeline.arrRef spec0 w = a → (cfg0.win w).isOut = false :=
  ListAll.forall_mem_of_all_decide (by decide +kernel)
/-- The arguments are unchanged after the first call. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same at the TensorCore's references. -/
abbrev V2 : (c : Dev nD) → (b : Ref sig .tc) → Buf (Elt F) ((c : Thread nD τ).loc b) := fun c b => W2 m ρ c b
/-- What the first call's steps leave in its arrays is what the contents after it say. -/
theorem hF0 (c : Dev nD) (w : Fin cfg0.W) : (dat0 (V1 m ρ) c).arrAt w cfg0.N = V2 m ρ c (Pipeline.arrRef spec0 w) :=
  (W2_arr m ρ c w).symm
/-- Outside the first call's arrays the contents after it are those before it. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- Every buffer after call 1: its arrays at what the write-backs leave, the others as entered. -/
def W3 (c : Dev nD) : Valuation τ sig (Elt F) :=
  Pipeline.withArrays spec1 c (W2 m ρ c) fun w => (dat1 (V2 m ρ) c).arrAt w cfg1.N
/-- After the second call each of its arrays holds what the call's steps left. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- The second call leaves every other buffer alone. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A buffer that is no output array of the call keeps its contents across it. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- The second call writes back to no argument. -/
theorem argsIn1 : ∀ a ∈ argRefs, ∀ w : Fin cfg1.W, Pipeline.arrRef spec1 w = a → (cfg1.win w).isOut = false :=
  ListAll.forall_mem_of_all_decide (by decide +kernel)
/-- The arguments are unchanged after the second call. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same at the TensorCore's references. -/
abbrev V3 : (c : Dev nD) → (b : Ref sig .tc) → Buf (Elt F) ((c : Thread nD τ).loc b) := fun c b => W3 m ρ c b
/-- What the second call's steps leave in its arrays is what the contents after it say. -/
theorem hF1 (c : Dev nD) (w : Fin cfg1.W) : (dat1 (V2 m ρ) c).arrAt w cfg1.N = V3 m ρ c (Pipeline.arrRef spec1 w) :=
  (W3_arr m ρ c w).symm
/-- Outside the second call's arrays the contents after it are those before it. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- Every buffer after the host operation `hostOps2`. -/
def W4 (c : Dev nD) : Valuation τ sig (Elt F) := StableHlo.after hostOps2 (W3 m ρ c)
/-- The last reshape changes only what it writes. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
/-- The last reshape writes no argument. -/
theorem hostOps2_args : ∀ a ∈ argRefs, a ∉ hostOps2_W := by decide
/-- The arguments are unchanged at the end. -/
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- The same at the TensorCore's references. -/
abbrev V4 : (c : Dev nD) → (b : Ref sig .tc) → Buf (Elt F) ((c : Thread nD τ).loc b) := fun c b => W4 m ρ c b

/-- Each call's data at the contents it is entered with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
/-- No loop needs a variant. -/
abbrev 𝒱₀ : Variants := Variants.none
/-- No semaphore carries a level. -/
abbrev L : GSem nD τ sig → Finset Unit := fun _ => ∅
/-- Every level is zero. -/
abbrev lv : GSem nD τ sig → Unit → ℕ := fun _ _ => 0
/-- What rides beside the buffers: the generator register and the core owing nothing. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those held between the segments. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the end. -/
abbrev Tₙ (c : Dev nD) : sProp 𝕄 := iprop(StableHlo.held (c : Thread nD τ) (Pipeline.ucRefs τ sig) (W4 m ρ c) ∗ ∃ r, prngReg c r)

-- a library lemma stated over the pinned configuration unifies with it only when unification may unfold plain definitions
set_option backward.isDefEq.respectTransparency.types false in
/-- Call 0 as a segment: entered with every buffer at `W1`, left with every buffer at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with it only when unification may unfold plain definitions
set_option backward.isDefEq.respectTransparency.types false in
/-- Call 1 as a segment: entered with every buffer at `W2`, left with every buffer at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m ρ 1 c).Φ 0 := hin1 (V2 m ρ) c
    unfold Pipeline.ΦA at h
    iintro ⟨Hp, -, Hr⟩
    iapply h
    isplitl [Hr]; · iexact Hr
    iexact Hp
  hout c := by
    rw [Pipeline.ownSems0_none]
    have h : (pdats m ρ 1 c).Φ (Fin.last _) ⊢ Pipeline.ΦA spec1 c := hout1 (V2 m ρ) c
    unfold Pipeline.ΦA at h
    iintro H
    ihave H := h $$ H
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- The program is the run of its segments. -/
theorem main_run (c : Dev nD) : main (F := F) c = Pipeline.Seg.run (segs m ρ) := (main_chain c).trans (by chain_rfl)

/-- Every semaphore is scoped. -/
theorem no_unscoped : ∀ sm : SemLoc sig, sm.isScoped .tc = true := by decide

-- the library theorem's implicit arguments are found by unifying its conclusion with this one
set_option backward.isDefEq.respectTransparency.types false in
/-- Every fair run ends, nothing faulting, with every unscoped buffer at `W4` and every semaphore at zero. -/
theorem ends : θ_run defs (onTc (τ := τ) (main (F := F))) ⟨m, fun _ => 0, ρ⟩ (fun r => (∀ c : Dev nD,
      ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The same with the result and the arguments by name: the arguments end as launched. -/
theorem ends_named : θ_run defs (onTc (τ := τ) (main (F := F))) ⟨m, fun _ => 0, ρ⟩ (fun r => (∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c =>
    ⟨h.1 c _ (mem_uc main_v0 (by decide)),
     (h.1 c _ (mem_uc main_arg0 (by decide))).trans (W4_args m ρ c main_arg0 (by decide)),
     (h.1 c _ (mem_uc main_arg1 (by decide))).trans (W4_args m ρ c main_arg1 (by decide)),
     (h.1 c _ (mem_uc main_arg2 (by decide))).trans (W4_args m ρ c main_arg2 (by decide)),
     (h.1 c _ (mem_uc main_arg3 (by decide))).trans (W4_args m ρ c main_arg3 (by decide)),
     (h.1 c _ (mem_uc main_arg4 (by decide))).trans (W4_args m ρ c main_arg4 (by decide)),
     (h.1 c _ (mem_uc main_arg5 (by decide))).trans (W4_args m ρ c main_arg5 (by decide)),
     (h.1 c _ (mem_uc main_arg6 (by decide))).trans (W4_args m ρ c main_arg6 (by decide)),
     (h.1 c _ (mem_uc main_arg7 (by decide))).trans (W4_args m ρ c main_arg7 (by decide))⟩, h.2⟩) (ends m ρ)

end Cert.KernelIdeal.Own

end
-- ==== Proof.Math.Top2.lean ====
/- The two greatest of sixteen values, the lower index first among equals: by two masked maxima, and by a stable sort. -/
module

public import Idealize.ShloMosaic.PureOps.Ideal
public import Idealize.ShloMosaic.Lib.SortPrefix
public import Idealize.ShloMosaic.PureOps.Reduce
public import Idealize.ShloMosaic.Lib.WordArith

@[expose] public section

noncomputable section

namespace Cert.Moe

open Idealize.ShloMosaic Idealize.ShloMosaic.WordArith

/-- Some index attains the maximum and no lower one does. -/
theorem exists_best (f : Fin 16 → EReal) : ∃ e, (∀ k, f k ≤ f e) ∧ ∀ k, f k = f e → e ≤ k := by
  obtain ⟨a, -, ha⟩ := Finset.exists_max_image Finset.univ f ⟨0, Finset.mem_univ _⟩
  have hne : (Finset.univ.filter fun k => f k = f a).Nonempty := ⟨a, by simp⟩
  obtain ⟨b, hb, hmin⟩ := Finset.exists_min_image _ (fun k : Fin 16 => k) hne
  have hb' : f b = f a := by simpa using hb
  refine ⟨b, fun k => hb' ▸ ha k (Finset.mem_univ k), fun k hk => hmin k ?_⟩
  simpa using hk.trans hb'

/-- The lowest index attaining the maximum. -/
def best (f : Fin 16 → EReal) : Fin 16 := (exists_best f).choose
/-- Nothing exceeds the value at `best`. -/
theorem le_best (f : Fin 16 → EReal) (k : Fin 16) : f k ≤ f (best f) := (exists_best f).choose_spec.1 k
/-- No index below `best` attains the maximum. -/
theorem best_le (f : Fin 16 → EReal) (k : Fin 16) (h : f k = f (best f)) : best f ≤ k := (exists_best f).choose_spec.2 k h

/-- The values with the best one replaced by −1. -/
def masked (f : Fin 16 → EReal) : Fin 16 → EReal := fun k => if k = best f then -1 else f k
/-- The lowest index attaining the maximum of what is left. -/
def second (f : Fin 16 → EReal) : Fin 16 := best (masked f)

/-- Above −1 the second index differs from the first. -/
theorem second_ne {f : Fin 16 → EReal} (hf : ∀ k, -1 < f k) : second f ≠ best f := by
  intro h
  obtain ⟨k, hk⟩ := exists_ne (best f)
  have := le_best (masked f) k
  rw [show best (masked f) = best f from h] at this
  simp only [masked, if_neg hk, if_true] at this
  exact absurd (hf k) (not_lt.mpr this)

/-- The masked value at the second index is the value there. -/
theorem masked_second {f : Fin 16 → EReal} (hf : ∀ k, -1 < f k) : masked f (second f) = f (second f) := if_neg (second_ne hf)

/-- The running maximum from −∞ is the value at `best`. -/
theorem fold_max_eq (f : Fin 16 → EReal) : (Finset.univ : Finset (Fin 16)).fold max ⊥ f = f (best f) := by
  refine le_antisymm ((Finset.fold_max_le _).mpr ⟨bot_le, fun k _ => le_best f k⟩) ?_
  exact (Finset.le_fold_max _).mpr (Or.inr ⟨_, Finset.mem_univ _, le_rfl⟩)

/-- The signed minimum of words, through their integer values. -/
theorem toInt_fold_minsi (b : BitVec 32) (g : Fin 16 → BitVec 32) (s : Finset (Fin 16)) :
    (s.fold IntOp.minsi b g).toInt = s.fold min b.toInt fun k => (g k).toInt := by
  induction s using Finset.cons_induction with
  | empty => rfl
  | cons a s ha ih =>
    rw [Finset.fold_cons, Finset.fold_cons, ← ih]
    simp only [IntOp.minsi, BitVec.slt, decide_eq_true_eq]
    split <;> omega

/-- The least index whose value is the maximum, found as a signed minimum of words, is `best`. -/
theorem fold_minsi_eq (f : Fin 16 → EReal) :
    (Finset.univ : Finset (Fin 16)).fold IntOp.minsi 2147483647#32
      (fun k => if f k = f (best f) then BitVec.ofNat 32 k.val else 16#32) = BitVec.ofNat 32 (best f).val := by
  apply BitVec.eq_of_toInt_eq
  rw [toInt_fold_minsi, toInt_ofNat_small (best f).val (by omega)]
  refine le_antisymm ?_ ?_
  · exact (Finset.fold_min_le _).mpr (Or.inr ⟨best f, Finset.mem_univ _, by rw [if_pos rfl, toInt_ofNat_small _ (by omega)]⟩)
  · refine (Finset.le_fold_min _).mpr ⟨by have := (best f).isLt; rw [show (2147483647#32).toInt = 2147483647 from rfl]; omega, fun k _ => ?_⟩
    by_cases h : f k = f (best f)
    · rw [if_pos h, toInt_ofNat_small _ (by omega)]; exact_mod_cast best_le f k h
    · rw [if_neg h, show (16#32).toInt = 16 from rfl]; have := (best f).isLt; omega

/-- "Greater first". -/
def gtB (f : Fin 16 → EReal) : Fin 16 → Fin 16 → Bool := fun a b => decide (f b < f a)
/-- "Greater first, the lower index first among equals". -/
def gtT (f : Fin 16 → EReal) : Fin 16 → Fin 16 → Bool := fun a b => decide (f b < f a ∨ (f a = f b ∧ a < b))

/-- Greater values first, equal values by number, is a strict total order. -/
theorem gtT_total (f : Fin 16 → EReal) : StrictTotalBefore (gtT f) where
  irrefl k := by simp [gtT]
  trans a b c hab hbc := by
    simp only [gtT, decide_eq_true_eq] at *
    rcases hab with h | ⟨h, l⟩ <;> rcases hbc with h' | ⟨h', l'⟩
    · exact Or.inl (h'.trans h)
    · exact Or.inl (h' ▸ h)
    · exact Or.inl (h ▸ h')
    · exact Or.inr ⟨h.trans h', l.trans l'⟩
  total a b hne := by
    simp only [gtT, decide_eq_true_eq]
    rcases lt_trichotomy (f a) (f b) with h | h | h
    · exact Or.inr (Or.inl h)
    · rcases lt_or_gt_of_ne hne with l | l
      · exact Or.inl (Or.inr ⟨h, l⟩)
      · exact Or.inr (Or.inr ⟨h.symm, l⟩)
    · exact Or.inl (Or.inl h)

/-- On an increasing list the stable sort by value alone is the sort by value and then index. -/
theorem stableSort_gt (f : Fin 16 → EReal) : ∀ l : List (Fin 16), l.Pairwise (· < ·) → stableSort (gtB f) l = stableSort (gtT f) l
  | [], _ => rfl
  | a :: l, h => by
    rw [List.pairwise_cons] at h
    unfold stableSort
    rw [stableSort_gt f l h.2]
    refine insertBefore_congr _ _ a _ fun b hb => ?_
    have hab := h.1 b ((perm_stableSort (gtT f) l).mem_iff.mp hb)
    simp only [gtB, gtT, decide_eq_decide]
    exact ⟨Or.inl, fun h => h.elim id fun h => absurd h.2 (not_lt.mpr hab.le)⟩

/-- The reference's comparison sorts as the total order does. -/
theorem sortedFrom_gt (f : Fin 16 → EReal) (k : Fin 16) : sortedFrom (gtB f) k = sortedFrom (gtT f) k := by
  unfold sortedFrom
  have e : sortPositions 16 (gtB f) = sortPositions 16 (gtT f) := stableSort_gt f _ (List.pairwise_lt_finRange 16)
  simp only [List.get_eq_getElem, e, Fin.val_cast]

/-- The first two places of the stable sort by "greater first". -/
theorem sortedFrom_top2 {f : Fin 16 → EReal} (hf : ∀ k, -1 < f k) (i : Fin 2) :
    sortedFrom (gtB f) (i.castLE (by decide)) = (![best f, second f] : Fin 2 → Fin 16) i := by
  have hne := second_ne hf
  have hbest : ∀ p, gtT f p (best f) = false := fun p => by
    simp only [gtT, decide_eq_false_iff_not, not_or, not_lt, not_and]
    exact ⟨le_best f p, fun h => best_le f p h⟩
  have hinj : Function.Injective (![best f, second f] : Fin 2 → Fin 16) := by
    have h : ∀ a b : Fin 2, (![best f, second f] : Fin 2 → Fin 16) a = (![best f, second f] : Fin 2 → Fin 16) b → a = b := by
      simp [Fin.forall_fin_two, hne, hne.symm]
    exact fun a b => h a b
  have hord : ∀ a b : Fin 2, a < b → gtT f ((![best f, second f] : Fin 2 → Fin 16) b) ((![best f, second f] : Fin 2 → Fin 16) a) = false := by
    intro a b h
    match a, b, h with
    | 0, 1, _ => exact hbest _
    | 0, 0, h => exact absurd h (lt_irrefl _)
    | 1, 1, h => exact absurd h (lt_irrefl _)
    | 1, 0, h => exact absurd h (by decide)
  have hdom : ∀ (a : Fin 2) (p : Fin 16), (∀ j, (![best f, second f] : Fin 2 → Fin 16) j ≠ p) →
      gtT f p ((![best f, second f] : Fin 2 → Fin 16) a) = false := by
    intro a p hp
    have h0 : p ≠ best f := fun h => hp 0 h.symm
    match a with
    | 0 => exact hbest p
    | 1 =>
      show gtT f p (second f) = false
      have hle := le_best (masked f) p
      have hlow := best_le (masked f) p
      rw [show masked f (best (masked f)) = f (second f) from masked_second hf,
        show masked f p = f p from if_neg h0] at hle hlow
      simp only [gtT, decide_eq_false_iff_not, not_or, not_lt, not_and]
      exact ⟨hle, hlow⟩
  rw [sortedFrom_gt]
  generalize (![best f, second f] : Fin 2 → Fin 16) = σ at hinj hord hdom
  exact (gtT_total f).sortedFrom_eq_of_prefix (by decide) σ hinj hord hdom i

end Cert.Moe

end
-- ==== Proof.Math.Model.lean ====
/- The layer as mathematics over the extended reals: the router's probabilities, each token's two experts with their
   weights and places in the experts' buffers, the experts' perceptrons, and the sum with the shared perceptron. -/
module

public import proofs.«01_k».proof.Proof.Math.Top2
public import Idealize.ShloMosaic.Lib.Pointwise.Index

@[expose] public section

noncomputable section

namespace Cert.Moe

open Idealize.ShloMosaic Idealize.ShloMosaic.WordArith

/-- A two-axis array as a function of its two coordinates. -/
def mat {a b : ℕ} {φ : FTy} (x : FVec Ideal ⟨2, ![a, b]⟩ φ) : Fin a → Fin b → EReal := fun i j => x (ix2 i j)

/-- A three-axis array as a function of its coordinates. -/
def cube {a b d : ℕ} {φ : FTy} (x : FVec Ideal ⟨3, ![a, b, d]⟩ φ) : Fin a → Fin b → Fin d → EReal := fun i j k => x (ix3 i j k)

/-- The router's scores: tokens against expert rows. -/
def logits (x : Fin 512 → Fin 2048 → EReal) (r : Fin 16 → Fin 2048 → EReal) (t : Fin 512) (e : Fin 16) : EReal :=
  ∑ k, x t k * r e k

/-- The largest of sixteen values, from −∞. -/
def top (l : Fin 16 → EReal) : EReal := (Finset.univ : Finset (Fin 16)).fold max ⊥ l

/-- The softmax of sixteen values. -/
def prob (l : Fin 16 → EReal) (e : Fin 16) : EReal :=
  Ideal.div (Ideal.exp (l e - top l)) (∑ k, Ideal.exp (l k - top l))

/-- The router's probabilities. -/
def probs (x : Fin 512 → Fin 2048 → EReal) (r : Fin 16 → Fin 2048 → EReal) (t : Fin 512) : Fin 16 → EReal := prob (logits x r t)

section Routing
variable (p : Fin 512 → Fin 16 → EReal)

/-- Token `t`'s `k`-th expert. -/
def expert (k : Fin 2) (t : Fin 512) : Fin 16 := (![best (p t), second (p t)] : Fin 2 → Fin 16) k

/-- The weight of token `t`'s `k`-th expert. -/
def weight (k : Fin 2) (t : Fin 512) : EReal :=
  Ideal.div (p t (expert p k t)) (p t (expert p 0 t) + p t (expert p 1 t))

/-- How many of the tokens before `t` chose expert `e`. -/
def cnt (t : Fin 512) (e : Fin 16) : ℕ :=
  ∑ s : Fin 512, if s < t then ∑ k : Fin 2, (if expert p k s = e then 1 else 0) else 0

/-- Token `t`'s `k`-th choice takes place `c` of expert `e`. -/
def hit (k : Fin 2) (t : Fin 512) (e : Fin 16) (c : ℕ) : Prop := expert p k t = e ∧ cnt p t e = c

/-- Whether a choice lands on a slot can be decided. -/
instance (k : Fin 2) (t : Fin 512) (e : Fin 16) (c : ℕ) : Decidable (hit p k t e c) := inferInstanceAs (Decidable (_ ∧ _))

/-- A count of choices never exceeds twice the tokens. -/
theorem cnt_le (t : Fin 512) (e : Fin 16) : cnt p t e ≤ 1024 := by
  have h : ∀ s : Fin 512, (if s < t then ∑ k : Fin 2, (if expert p k s = e then 1 else 0) else 0) ≤ 2 := by
    intro s
    rw [Fin.sum_univ_two]
    split_ifs <;> omega
  calc cnt p t e ≤ ∑ _s : Fin 512, 2 := Finset.sum_le_sum fun s _ => h s
    _ = 1024 := by simp

/-- Above −1 a token's two experts differ. -/
theorem expert_ne (hp : ∀ t e, -1 < p t e) (t : Fin 512) : expert p 1 t ≠ expert p 0 t := second_ne (hp t)

variable (x : Fin 512 → Fin 2048 → EReal)

/-- Row `c` of expert `e`'s buffer: the token that took that place, or zero. -/
def slot (e : Fin 16) (c : ℕ) (h : Fin 2048) : EReal := ∑ t : Fin 512, ∑ k : Fin 2, if hit p k t e c then x t h else 0

end Routing

/-- The gated activation. -/
def act (g u : EReal) : EReal := g * Ideal.logistic g * u

/-- One hidden unit of an expert at a buffer row. -/
def hidden (row : Fin 2048 → EReal) (w1 w3 : Fin 2048 → EReal) : EReal := act (∑ k, row k * w1 k) (∑ k, row k * w3 k)

/-- A perceptron's output on one row: `n` hidden units. -/
def mlp {n : ℕ} (row : Fin 2048 → EReal) (w1 w3 : Fin n → Fin 2048 → EReal) (w2 : Fin 2048 → Fin n → EReal) (h : Fin 2048) : EReal :=
  ∑ i, hidden row (w1 i) (w3 i) * w2 h i

/-- What a token's two experts give, each weighted; a choice past an expert's 256 places gives nothing. -/
def sparse (p : Fin 512 → Fin 16 → EReal) (x : Fin 512 → Fin 2048 → EReal) (w1 w3 : Fin 16 → Fin 1024 → Fin 2048 → EReal)
    (w2 : Fin 16 → Fin 2048 → Fin 1024 → EReal) (t : Fin 512) (h : Fin 2048) : EReal :=
  ∑ k : Fin 2, if cnt p t (expert p k t) < 256 then
    mlp (slot p x (expert p k t) (cnt p t (expert p k t))) (w1 (expert p k t)) (w3 (expert p k t)) (w2 (expert p k t)) h
      * weight p k t else 0

/-- The layer: the experts' part plus the shared perceptron. -/
def layer (x : Fin 512 → Fin 2048 → EReal) (r : Fin 16 → Fin 2048 → EReal) (w1 : Fin 16 → Fin 1024 → Fin 2048 → EReal)
    (w2 : Fin 16 → Fin 2048 → Fin 1024 → EReal) (w3 : Fin 16 → Fin 1024 → Fin 2048 → EReal)
    (gw uw dw : Fin 2048 → Fin 2048 → EReal) (t : Fin 512) (h : Fin 2048) : EReal :=
  sparse (probs x r) x w1 w3 w2 t h + mlp (x t) gw uw dw h

/-- A bit widened to a word and read as a number. -/
theorem bit_value (b : Bool) : FloatOps.sitofp (F := Ideal) FTy.f32 (BitVec.setWidth 32 (BitVec.ofBool b)) = (if b = true then (1 : EReal) else 0) := by
  show (((BitVec.setWidth 32 (BitVec.ofBool b)).toInt : ℝ) : EReal) = _
  cases b <;> simp

/-- A small word read as a number. -/
theorem word_value (n : ℕ) (h : n < 2 ^ 31) : FloatOps.sitofp (F := Ideal) FTy.f32 (BitVec.ofNat 32 n) = (n : EReal) := by
  show (((BitVec.ofNat 32 n).toInt : ℝ) : EReal) = _
  rw [toInt_ofNat_small n h]; simp

/-- The word of −1. -/
theorem neg_one_value : Ideal.ofBits FTy.f32 3212836864#32 = (-1 : EReal) := by
  rw [show (-1 : EReal) = ((-(1 : ℝ) : ℝ) : EReal) from by simp]
  simp [Ideal.ofBits, Ideal.ieee, -EReal.coe_mul, -EReal.coe_neg]; norm_num

/-- The word of −∞. -/
theorem neg_inf_value : Ideal.ofBits FTy.f32 4286578688#32 = (⊥ : EReal) := by
  simp [Ideal.ofBits, Ideal.ieee]

end Cert.Moe

end
-- ==== Proof.Math.KRouter.lean ====
/- The router inside the expert kernel: what its table of eight columns per token holds. -/
module

public import proofs.«01_k».proof.Proof.Gen.KernelIdeal.Skeleton
public import proofs.«01_k».proof.Proof.Math.Model
public import Idealize.ShloMosaic.Lib.Pointwise

@[expose] public section

noncomputable section

namespace Cert.Moe

open Idealize.ShloMosaic Cert.KernelIdeal Cert.KernelIdeal.Gen

variable (x : FVec Ideal S512x2048 .f32) (r : FVec Ideal S16x2048 .f32)

/-- The probabilities the kernel computes are the router's. -/
theorem pay2_at (t : Fin 512) (e : Fin 16) : k1_pay2 (F := Ideal) x r (ix2 t e) = probs (mat x) (mat r) t e := by
  pointwise [k1_pay2]
  rw [neg_inf_value]
  rfl

/-- The first maximum is the best probability. -/
theorem pay3_at (t : Fin 512) (z : Fin 1) : k1_pay3 (F := Ideal) x r (ix2 t z) = probs (mat x) (mat r) t (best (probs (mat x) (mat r) t)) := by
  pointwise [k1_pay3]
  simp only [pay2_at]
  rw [neg_inf_value]
  exact fold_max_eq _

/-- The first index is the best expert. -/
theorem pay4_at (t : Fin 512) (z : Fin 1) : k1_pay4 (F := Ideal) x r (ix2 t z) = BitVec.ofNat 32 (best (probs (mat x) (mat r) t)).val := by
  pointwise [k1_pay4]
  simp only [pay2_at, pay3_at]
  exact fold_minsi_eq _

/-- Comparing two expert numbers as words compares them. -/
theorem cmp_expert (a b : Fin 16) : IntOp.cmpi CmpIPredicate.eq (BitVec.ofNat 32 a.val) (BitVec.ofNat 32 b.val) = BitVec.ofBool (decide (b = a)) := by
  have h : BitVec.ofNat 32 a.val = BitVec.ofNat 32 b.val ↔ b = a := by
    rw [← BitVec.toNat_inj]; simp only [BitVec.toNat_ofNat]; omega
  show BitVec.ofBool (BitVec.ofNat 32 a.val == BitVec.ofNat 32 b.val) = _
  congr 1
  rw [beq_eq_decide, decide_eq_decide]; exact h

/-- The first expert's indicator. -/
theorem pay5_at (t : Fin 512) (e : Fin 16) :
    k1_pay5 (F := Ideal) x r (ix2 t e) = BitVec.ofBool (decide (best (probs (mat x) (mat r) t) = e)) := by
  pointwise [k1_pay5]
  rw [pay4_at]
  exact cmp_expert _ _

/-- The probabilities with the best one masked. -/
theorem pay6_at (t : Fin 512) (e : Fin 16) : k1_pay6 (F := Ideal) x r (ix2 t e) = masked (probs (mat x) (mat r) t) e := by
  pointwise [k1_pay6]
  rw [pay5_at, pay2_at, neg_one_value]
  unfold masked
  by_cases h : e = best (probs (mat x) (mat r) t)
  · rw [if_pos h, decide_eq_true h.symm]; rfl
  · rw [if_neg h, decide_eq_false (Ne.symm h)]; rfl

variable (hp : ∀ t e, -1 < probs (mat x) (mat r) t e)
include hp

/-- The second maximum is the second probability. -/
theorem pay7_at (t : Fin 512) (z : Fin 1) : k1_pay7 (F := Ideal) x r (ix2 t z) = probs (mat x) (mat r) t (second (probs (mat x) (mat r) t)) := by
  pointwise [k1_pay7]
  simp only [pay6_at]
  rw [neg_inf_value, ← masked_second (hp t)]
  exact fold_max_eq _

/-- The second index is the second expert. -/
theorem pay8_at (t : Fin 512) (z : Fin 1) : k1_pay8 (F := Ideal) x r (ix2 t z) = BitVec.ofNat 32 (second (probs (mat x) (mat r) t)).val := by
  pointwise [k1_pay8]
  simp only [pay6_at, pay7_at x r hp]
  rw [← masked_second (hp t)]
  exact fold_minsi_eq _

/-- The second expert's indicator. -/
theorem pay9_at (t : Fin 512) (e : Fin 16) :
    k1_pay9 (F := Ideal) x r (ix2 t e) = BitVec.ofBool (decide (second (probs (mat x) (mat r) t) = e)) := by
  pointwise [k1_pay9]
  rw [pay8_at x r hp]
  exact cmp_expert _ _

/-- The table the router leaves. -/
def table : FVec Ideal S512x8 .f32 :=
  k1_pay12 (F := Ideal) (k1_pay4 (F := Ideal) x r) (k1_pay5 (F := Ideal) x r) (k1_pay7 (F := Ideal) x r) (k1_pay8 (F := Ideal) x r)
    (k1_pay9 (F := Ideal) x r) (k1_pay10 (F := Ideal) x r) (k1_pay11 (F := Ideal) x r)

/-- Columns zero and one: the token's two experts. -/
theorem table0 (t : Fin 512) : table x r (ix2 t 0) = ((expert (probs (mat x) (mat r)) 0 t).val : EReal) := by
  unfold table
  pointwise [k1_pay12]
  rw [pay4_at, word_value _ (by omega)]; rfl
/-- The table's column 1 holds the second expert's number. -/
theorem table1 (t : Fin 512) : table x r (ix2 t 1) = ((expert (probs (mat x) (mat r)) 1 t).val : EReal) := by
  unfold table
  pointwise [k1_pay12]
  rw [pay8_at x r hp, word_value _ (by omega)]; rfl
/-- Columns four and five: the two weights. -/
theorem table4 (t : Fin 512) : table x r (ix2 t 4) = weight (probs (mat x) (mat r)) 0 t := by
  unfold table
  pointwise [k1_pay12, k1_pay10, k1_pay11]
  rw [pay3_at, pay7_at x r hp]; rfl
/-- The table's column 5 holds the second expert's weight. -/
theorem table5 (t : Fin 512) : table x r (ix2 t 5) = weight (probs (mat x) (mat r)) 1 t := by
  unfold table
  pointwise [k1_pay12, k1_pay10]
  rw [pay3_at, pay7_at x r hp]; rfl

omit hp in
/-- Comparing two token numbers as words compares them. -/
theorem cmp_token (a b : Fin 512) : IntOp.cmpi CmpIPredicate.sgt (BitVec.ofNat 32 a.val) (BitVec.ofNat 32 b.val) = BitVec.ofBool (decide (b < a)) := by
  show BitVec.ofBool ((BitVec.ofNat 32 b.val).slt (BitVec.ofNat 32 a.val)) = _
  congr 1
  rw [BitVec.slt, decide_eq_decide, WordArith.toInt_ofNat_small _ (by omega), WordArith.toInt_ofNat_small _ (by omega)]
  exact Int.ofNat_lt

omit hp in
/-- The counts read off at an expert's indicator: the count of that expert's earlier choices. -/
theorem count_value (p : Fin 512 → Fin 16 → EReal) (t : Fin 512) (e : Fin 16) :
    (∑ e', (∑ s : Fin 512, (if decide (s < t) = true then (1 : EReal) else 0)
      * ((if decide (best (p s) = e') = true then 1 else 0) + (if decide (second (p s) = e') = true then 1 else 0)))
      * (if decide (e = e') = true then 1 else 0)) = (cnt p t e : EReal) := by
  simp only [decide_eq_true_eq, mul_ite, mul_one, mul_zero, Finset.sum_ite_eq, Finset.mem_univ, if_true]
  unfold cnt
  rw [Nat.cast_sum]
  refine Finset.sum_congr rfl fun s _ => ?_
  rw [Fin.sum_univ_two]
  by_cases h : s < t
  · rw [if_pos h, if_pos h, one_mul]; push_cast; rfl
  · rw [if_neg h, if_neg h, zero_mul, Nat.cast_zero]

/-- Columns two and three: the places of the token's two choices. -/
theorem table2 (t : Fin 512) : table x r (ix2 t 2) = (cnt (probs (mat x) (mat r)) t (expert (probs (mat x) (mat r)) 0 t) : EReal) := by
  unfold table
  pointwise [k1_pay12]
  simp only [pay5_at, pay9_at x r hp, cmp_token, bit_value]
  exact count_value _ _ _
/-- The table's column 3 holds the token's place with its second expert. -/
theorem table3 (t : Fin 512) : table x r (ix2 t 3) = (cnt (probs (mat x) (mat r)) t (expert (probs (mat x) (mat r)) 1 t) : EReal) := by
  unfold table
  pointwise [k1_pay12]
  simp only [pay5_at, pay9_at x r hp, cmp_token, bit_value]
  exact count_value _ _ _

end Cert.Moe

end
-- ==== Proof.Math.KExpert.lean ====
/- One step of the expert kernel: which tokens its expert's places take, the rows gathered into its buffer, and what its
   perceptron adds to the result. -/
module

public import proofs.«01_k».proof.Proof.Math.KRouter

@[expose] public section

noncomputable section

namespace Cert.Moe

open Idealize.ShloMosaic Cert.KernelIdeal Cert.KernelIdeal.Gen

/-- Two numbers are equal as extended reals when they are equal. -/
theorem natCast_eq (a b : ℕ) : ((a : EReal) = (b : EReal)) ↔ a = b := by
  constructor
  · intro h; exact_mod_cast h
  · rintro rfl; rfl

/-- Two conditions as bits, both met. -/
theorem both_value (P Q : Prop) [Decidable P] [Decidable Q] :
    FloatOps.sitofp (F := Ideal) FTy.f32 (BitVec.setWidth 32 (IntOp.andi (BitVec.ofBool (decide P)) (BitVec.ofBool (decide Q))))
      = if P ∧ Q then (1 : EReal) else 0 := by
  have h : IntOp.andi (BitVec.ofBool (decide P)) (BitVec.ofBool (decide Q)) = BitVec.ofBool (decide (P ∧ Q)) := by
    by_cases hP : P <;> by_cases hQ : Q <;> simp [hP, hQ] <;> rfl
  rw [h, bit_value]
  simp only [decide_eq_true_eq]

variable (x : FVec Ideal S512x2048 .f32) (r : FVec Ideal S16x2048 .f32) (hp : ∀ t e, -1 < probs (mat x) (mat r) t e)
variable (i : grid1.Coords)

/-- The expert of a grid step. -/
def stepExpert (i : grid1.Coords) : Fin 16 := ⟨(i 0).val, (i 0).isLt⟩

include hp

/-- The first choices' indicator of the expert's places. -/
theorem pay15_at (t : Fin 512) (c : Fin 256) : k1_pay15 (F := Ideal) i (table x r) (ix2 t c)
    = if hit (probs (mat x) (mat r)) 0 t (stepExpert i) c.val then 1 else 0 := by
  pointwise [k1_pay15, k1_pay13, k1_pay14]
  rw [both_value, table0 x r hp, table2 x r hp, word_value c.val (by omega)]
  rw [show (((BitVec.ofNat 32 (i 0).val).toInt : ℝ) : EReal) = ((i 0).val : EReal) from
    word_value (i 0).val (by have : (i 0).val < 16 := (i 0).isLt; omega)]
  simp only [natCast_eq]
  refine if_congr ?_ rfl rfl
  unfold hit
  constructor
  · rintro ⟨h, h'⟩
    have h : expert (probs (mat x) (mat r)) 0 t = stepExpert i := Fin.ext h
    exact ⟨h, h ▸ h'⟩
  · rintro ⟨h, h'⟩; exact ⟨congrArg Fin.val h, by rw [h]; exact h'⟩

/-- The second choices' indicator. -/
theorem pay16_at (t : Fin 512) (c : Fin 256) : k1_pay16 (F := Ideal) i (table x r) (ix2 t c)
    = if hit (probs (mat x) (mat r)) 1 t (stepExpert i) c.val then 1 else 0 := by
  pointwise [k1_pay16, k1_pay13, k1_pay14]
  rw [both_value, table1 x r hp, table3 x r hp, word_value c.val (by omega)]
  rw [show (((BitVec.ofNat 32 (i 0).val).toInt : ℝ) : EReal) = ((i 0).val : EReal) from
    word_value (i 0).val (by have : (i 0).val < 16 := (i 0).isLt; omega)]
  simp only [natCast_eq]
  refine if_congr ?_ rfl rfl
  unfold hit
  constructor
  · rintro ⟨h, h'⟩
    have h : expert (probs (mat x) (mat r)) 1 t = stepExpert i := Fin.ext h
    exact ⟨h, h ▸ h'⟩
  · rintro ⟨h, h'⟩; exact ⟨congrArg Fin.val h, by rw [h]; exact h'⟩

omit hp in
/-- A token takes a place of an expert by at most one of its two choices. -/
theorem hit_exclusive {p : Fin 512 → Fin 16 → EReal} (hp : ∀ t e, -1 < p t e) {t : Fin 512} {e : Fin 16} {c : ℕ}
    (h0 : hit p 0 t e c) (h1 : hit p 1 t e c) : False := expert_ne p hp t (h1.1.trans h0.1.symm)

/-- The weights at the expert's places. -/
theorem pay17_at (t : Fin 512) (c : Fin 256) : k1_pay17 (F := Ideal) i (table x r) (ix2 t c)
    = ∑ k : Fin 2, if hit (probs (mat x) (mat r)) k t (stepExpert i) c.val then weight (probs (mat x) (mat r)) k t else 0 := by
  pointwise [k1_pay17]
  rw [pay15_at x r hp, pay16_at x r hp, table4 x r hp, table5 x r hp, Fin.sum_univ_two]
  simp only [ite_mul, one_mul, zero_mul]

/-- The rows gathered into the expert's buffer. -/
theorem pay18_at (c : Fin 256) (h : Fin 2048) : k1_pay18 (F := Ideal) i (table x r) x (ix2 c h)
    = slot (probs (mat x) (mat r)) (mat x) (stepExpert i) c.val h := by
  pointwise [k1_pay18]
  unfold slot
  refine Finset.sum_congr rfl fun t _ => ?_
  rw [pay15_at x r hp, pay16_at x r hp, Fin.sum_univ_two]
  by_cases h0 : hit (probs (mat x) (mat r)) 0 t (stepExpert i) c.val
  · have h1 : ¬ hit (probs (mat x) (mat r)) 1 t (stepExpert i) c.val := fun h1 => hit_exclusive hp h0 h1
    rw [if_pos h0, if_neg h1, if_pos h0, if_neg h1, add_zero, one_mul, add_zero]; rfl
  · rw [if_neg h0, if_neg h0, zero_add, zero_add, ite_mul, one_mul, zero_mul]; rfl

omit hp

/-- The perceptron over one block of hidden units. -/
theorem pay19_at (a b : FVec Ideal S1x512x2048 .f32) (d : FVec Ideal S1x2048x512 .f32) (f : FVec Ideal S256x2048 .bf16)
    (c : Fin 256) (h : Fin 2048) : k1_pay19 (F := Ideal) a b d f (ix2 c h)
      = mlp (mat f c) (fun j k => a (ix3 0 j k)) (fun j k => b (ix3 0 j k)) (fun h j => d (ix3 0 h j)) h := by
  pointwise [k1_pay19]
  rfl
/-- The half product kept at an even step is the same perceptron. -/
theorem pay20_eq (a b : FVec Ideal S1x512x2048 .f32) (d : FVec Ideal S1x2048x512 .f32) (f : FVec Ideal S256x2048 .bf16)
    (c : Fin 256) (h : Fin 2048) : k1_pay20 (F := Ideal) a b d f (ix2 c h) = k1_pay19 (F := Ideal) a b d f (ix2 c h) := by
  pointwise [k1_pay20]

/-- A step's output: what was there plus the weighted perceptron outputs of the tokens' places. -/
theorem pay21_at (a b : FVec Ideal S1x512x2048 .f32) (d : FVec Ideal S1x2048x512 .f32) (f : FVec Ideal S256x2048 .bf16)
    (y : FVec Ideal S256x2048 .f32) (o : FVec Ideal S512x2048 .f32) (w : FVec Ideal S512x256 .bf16) (t : Fin 512) (h : Fin 2048) :
    k1_pay21 (F := Ideal) a b d f y o w (ix2 t h)
      = o (ix2 t h) + ∑ c, w (ix2 t c) * (y (ix2 c h) + k1_pay19 (F := Ideal) a b d f (ix2 c h)) := by
  pointwise [k1_pay21]

/-- A step of the shared kernel: what was there plus the perceptron over one block of hidden units. -/
theorem pay0_at (a b d f : FVec Ideal S512x2048 .f32) (g : FVec Ideal S2048x512 .f32) (t : Fin 512) (h : Fin 2048) :
    k0_pay2 (F := Ideal) a b d f g (ix2 t h) = f (ix2 t h) + mlp (mat a t) (mat b) (mat d) (mat g) h := by
  pointwise [k0_pay2]
  rfl

end Cert.Moe

end
-- ==== Proof.Math.Combine.lean ====
/- Sums cut in blocks, and the experts' contributions summed over experts and places. -/
module

public import proofs.«01_k».proof.Proof.Math.Model

@[expose] public section

noncomputable section

namespace Cert.Moe

open Idealize.ShloMosaic

/-- A perceptron on `q` blocks of `n` hidden units each is the sum of the blocks' perceptrons. -/
theorem mlp_blocks {q n N : ℕ} (hN : q * n = N) (row : Fin 2048 → EReal) (w1 w3 : Fin N → Fin 2048 → EReal) (w2 : Fin 2048 → Fin N → EReal)
    (h : Fin 2048) (b : ∀ (a : Fin q) (j : Fin n), n * a.val + j.val < N) :
    mlp row w1 w3 w2 h = ∑ a : Fin q, mlp row (fun j => w1 ⟨n * a.val + j.val, b a j⟩) (fun j => w3 ⟨n * a.val + j.val, b a j⟩)
      (fun h j => w2 h ⟨n * a.val + j.val, b a j⟩) h := by
  subst hN
  unfold mlp
  rw [← Fintype.sum_prod_type']
  refine (Fintype.sum_equiv finProdFinEquiv _ _ fun z => ?_).symm
  have e : finProdFinEquiv z = ⟨n * z.1.val + z.2.val, b z.1 z.2⟩ := Fin.ext (by
    rw [finProdFinEquiv_apply_val]; exact Nat.add_comm _ _)
  rw [e]

variable (p : Fin 512 → Fin 16 → EReal) (x : Fin 512 → Fin 2048 → EReal) (w1 w3 : Fin 16 → Fin 1024 → Fin 2048 → EReal)
    (w2 : Fin 16 → Fin 2048 → Fin 1024 → EReal)

/-- What expert `e` adds to a token's row: over its places, the token's weight there times the place's output. -/
def contrib (e : Fin 16) (t : Fin 512) (h : Fin 2048) : EReal :=
  ∑ c : Fin 256, (∑ k : Fin 2, if hit p k t e c.val then weight p k t else 0) * mlp (slot p x e c.val) (w1 e) (w3 e) (w2 e) h

/-- The weight of a place is at most one of the two choices' weights. -/
theorem place_mul (hp : ∀ t e, -1 < p t e) (e : Fin 16) (t : Fin 512) (c : ℕ) (y : EReal) :
    (∑ k : Fin 2, if hit p k t e c then weight p k t else 0) * y = ∑ k : Fin 2, if hit p k t e c then y * weight p k t else 0 := by
  rw [Fin.sum_univ_two, Fin.sum_univ_two]
  by_cases h0 : hit p 0 t e c
  · have h1 : ¬ hit p 1 t e c := fun h1 => expert_ne p hp t (h1.1.trans h0.1.symm)
    rw [if_pos h0, if_neg h1, if_pos h0, if_neg h1, add_zero, add_zero, mul_comm]
  · rw [if_neg h0, if_neg h0, zero_add, zero_add, ite_mul, zero_mul, mul_comm]

/-- One choice is found in exactly one place, if its place is among the 256. -/
theorem sum_places (k : Fin 2) (t : Fin 512) (f : Fin 16 → ℕ → EReal) :
    (∑ e : Fin 16, ∑ c : Fin 256, if hit p k t e c.val then f e c.val else 0)
      = if cnt p t (expert p k t) < 256 then f (expert p k t) (cnt p t (expert p k t)) else 0 := by
  rw [Finset.sum_eq_single (expert p k t)]
  · by_cases hc : cnt p t (expert p k t) < 256
    · rw [if_pos hc, Finset.sum_eq_single (⟨_, hc⟩ : Fin 256)]
      · exact if_pos ⟨rfl, rfl⟩
      · intro c _ hne
        exact if_neg fun h => hne (Fin.ext h.2.symm)
      · exact fun h => absurd (Finset.mem_univ _) h
    · rw [if_neg hc]
      refine Finset.sum_eq_zero fun c _ => if_neg fun h => hc ?_
      have := h.2; have := c.isLt; omega
  · intro e _ hne
    exact Finset.sum_eq_zero fun c _ => if_neg fun h => hne h.1.symm
  · exact fun h => absurd (Finset.mem_univ _) h

/-- The experts' contributions add up to the sparse part. -/
theorem sum_contrib (hp : ∀ t e, -1 < p t e) (t : Fin 512) (h : Fin 2048) :
    ∑ e, contrib p x w1 w3 w2 e t h = sparse p x w1 w3 w2 t h := by
  unfold contrib sparse
  simp only [place_mul p hp]
  rw [Finset.sum_congr rfl fun e _ => Finset.sum_comm, Finset.sum_comm]
  refine Finset.sum_congr rfl fun k _ => ?_
  exact sum_places p k t fun e c => mlp (slot p x e c) (w1 e) (w3 e) (w2 e) h * weight p k t

end Cert.Moe

end
-- ==== Proof.KernelIdeal.Blocks.lean ====
/- Each window's block at a point, element by element, as elements of its array. -/
module

public import proofs.«01_k».proof.Proof.KernelIdeal.Region0
public import proofs.«01_k».proof.Proof.KernelIdeal.Region1
public import Idealize.ShloMosaic.Lib.Pointwise

@[expose] public section

set_option maxRecDepth 16384

noncomputable section

namespace Cert.KernelIdeal.Own

open Cert.KernelIdeal.Gen
open Idealize.ShloMosaic Idealize.ShloMosaic.TcCoe
open Idealize.ShloMosaic.Pipeline (Dat Cfg Window)

variable {F : FTy → Type} [FloatOps F]
variable (V : (c : Dev nD) → (b : Ref sig .tc) → Buf (Elt F) ((c : Thread nD τ).loc b))

/-- The block indices of the expert call's windows: the weights' blocks follow the expert and the half. -/
theorem index1_3 : ∀ t : Fin cfg1.N, (cfg1.win 3).index t 0 = t.val / 2 ∧ (cfg1.win 3).index t 1 = t.val % 2 ∧ (cfg1.win 3).index t 2 = 0 := by
  decide +kernel
/-- Step t of the second call reads the w3 block of expert t / 2, half t % 2. -/
theorem index1_4 : ∀ t : Fin cfg1.N, (cfg1.win 4).index t 0 = t.val / 2 ∧ (cfg1.win 4).index t 1 = t.val % 2 ∧ (cfg1.win 4).index t 2 = 0 := by
  decide +kernel
/-- Step t of the second call reads the w2 block of expert t / 2, half t % 2. -/
theorem index1_5 : ∀ t : Fin cfg1.N, (cfg1.win 5).index t 0 = t.val / 2 ∧ (cfg1.win 5).index t 1 = 0 ∧ (cfg1.win 5).index t 2 = t.val % 2 := by
  decide +kernel
/-- Every step of the second call reads all tokens. -/
theorem index1_0 : ∀ t : Fin cfg1.N, (cfg1.win 0).index t 0 = 0 ∧ (cfg1.win 0).index t 1 = 0 := by decide +kernel
/-- Every step of the second call reads all router rows. -/
theorem index1_1 : ∀ t : Fin cfg1.N, (cfg1.win 1).index t 0 = 0 ∧ (cfg1.win 1).index t 1 = 0 := by decide +kernel
/-- Every step of the second call reads all of the first call's result. -/
theorem index1_2 : ∀ t : Fin cfg1.N, (cfg1.win 2).index t 0 = 0 ∧ (cfg1.win 2).index t 1 = 0 := by decide +kernel
/-- Every step of the second call writes the whole output. -/
theorem index1_6 : ∀ t : Fin cfg1.N, (cfg1.win 6).index t 0 = 0 ∧ (cfg1.win 6).index t 1 = 0 := by decide +kernel
/-- Every step of the first call reads all tokens. -/
theorem index0_0 : ∀ t : Fin cfg0.N, (cfg0.win 0).index t 0 = 0 ∧ (cfg0.win 0).index t 1 = 0 := by decide +kernel
/-- Step t of the first call reads gate block t. -/
theorem index0_1 : ∀ t : Fin cfg0.N, (cfg0.win 1).index t 0 = t.val ∧ (cfg0.win 1).index t 1 = 0 := by decide +kernel
/-- Step t of the first call reads up block t. -/
theorem index0_2 : ∀ t : Fin cfg0.N, (cfg0.win 2).index t 0 = t.val ∧ (cfg0.win 2).index t 1 = 0 := by decide +kernel
/-- Step t of the first call reads down block t. -/
theorem index0_3 : ∀ t : Fin cfg0.N, (cfg0.win 3).index t 0 = 0 ∧ (cfg0.win 3).index t 1 = t.val := by decide +kernel
/-- Every step of the first call writes the whole output. -/
theorem index0_4 : ∀ t : Fin cfg0.N, (cfg0.win 4).index t 0 = 0 ∧ (cfg0.win 4).index t 1 = 0 := by decide +kernel
/-- The last points of the two calls. -/
def lastPt0 : Fin cfg0.N := ⟨3, by decide⟩
/-- The last step of the second call. -/
def lastPt1 : Fin cfg1.N := ⟨31, by decide⟩

/-- The first grid coordinate of a point of the expert call is its expert. -/
theorem coords1 : ∀ t : Fin cfg1.N, (grid1.coords t 0).val = t.val / 2 := by decide +kernel

/-- The first call has four steps. -/
theorem N0_lt (t : Fin cfg0.N) : t.val < 4 := lt_of_lt_of_eq t.isLt (show cfg0.N = 4 from N_0)
/-- The second call has thirty-two steps. -/
theorem N1_lt (t : Fin cfg1.N) : t.val < 32 := lt_of_lt_of_eq t.isLt (show cfg1.N = 32 from N_1)

/-! The expert call's windows: tokens, router rows, the shared result, and the expert's halves of the three weights. -/

/-- The tokens' block is their array. -/
theorem iblk1_0 (c : Dev nD) (t : Fin cfg1.N) (j : Fin 512) (k : Fin 2048) :
    iblk1 V c 0 t (ix2 j k) = V c main_call0_v0 (ix2 j k) := by
  unfold iblk1
  rw [View.read_apply]
  show V c main_call0_v0 _ = _
  congr 1
  funext a
  apply Fin.ext
  obtain ⟨h0, h1⟩ := index1_0 t
  have h := (cfg1.win 0).rect_emb_val t (ix2 j k)
  match a with
  | 0 => refine (h 0).trans ?_; rw [h0]; show 0 * 512 + j.val = j.val; omega
  | 1 => refine (h 1).trans ?_; rw [h1]; show 0 * 2048 + k.val = k.val; omega

/-- The router rows' block is their array. -/
theorem iblk1_1 (c : Dev nD) (t : Fin cfg1.N) (j : Fin 16) (k : Fin 2048) :
    iblk1 V c 1 t (ix2 j k) = V c main_arg1 (ix2 j k) := by
  unfold iblk1
  rw [View.read_apply]
  show V c main_arg1 _ = _
  congr 1
  funext a
  apply Fin.ext
  obtain ⟨h0, h1⟩ := index1_1 t
  have h := (cfg1.win 1).rect_emb_val t (ix2 j k)
  match a with
  | 0 => refine (h 0).trans ?_; rw [h0]; show 0 * 16 + j.val = j.val; omega
  | 1 => refine (h 1).trans ?_; rw [h1]; show 0 * 2048 + k.val = k.val; omega

/-- The shared result's block is its array. -/
theorem iblk1_2 (c : Dev nD) (t : Fin cfg1.N) (j : Fin 512) (k : Fin 2048) :
    iblk1 V c 2 t (ix2 j k) = V c main_call0_v1 (ix2 j k) := by
  unfold iblk1
  rw [View.read_apply]
  show V c main_call0_v1 _ = _
  congr 1
  funext a
  apply Fin.ext
  obtain ⟨h0, h1⟩ := index1_2 t
  have h := (cfg1.win 2).rect_emb_val t (ix2 j k)
  match a with
  | 0 => refine (h 0).trans ?_; rw [h0]; show 0 * 512 + j.val = j.val; omega
  | 1 => refine (h 1).trans ?_; rw [h1]; show 0 * 2048 + k.val = k.val; omega

/-- The first weights' block: the expert's half of the hidden units. -/
theorem iblk1_3 (c : Dev nD) (t : Fin cfg1.N) (z : Fin 1) (j : Fin 512) (k : Fin 2048) :
    iblk1 V c 3 t (ix3 z j k) = V c main_arg2 (ix3 ⟨t.val / 2, by have := N1_lt t; omega⟩ ⟨512 * (t.val % 2) + j.val, by omega⟩ k) := by
  unfold iblk1
  rw [View.read_apply]
  show V c main_arg2 _ = _
  congr 1
  funext a
  apply Fin.ext
  obtain ⟨h0, h1, h2⟩ := index1_3 t
  have h := (cfg1.win 3).rect_emb_val t (ix3 z j k)
  match a with
  | 0 => refine (h 0).trans ?_; rw [h0]; show t.val / 2 * 1 + z.val = t.val / 2; omega
  | 1 => refine (h 1).trans ?_; rw [h1]; show t.val % 2 * 512 + j.val = 512 * (t.val % 2) + j.val; omega
  | 2 => refine (h 2).trans ?_; rw [h2]; show 0 * 2048 + k.val = k.val; omega

/-- The second weights' block. -/
theorem iblk1_4 (c : Dev nD) (t : Fin cfg1.N) (z : Fin 1) (j : Fin 512) (k : Fin 2048) :
    iblk1 V c 4 t (ix3 z j k) = V c main_arg4 (ix3 ⟨t.val / 2, by have := N1_lt t; omega⟩ ⟨512 * (t.val % 2) + j.val, by omega⟩ k) := by
  unfold iblk1
  rw [View.read_apply]
  show V c main_arg4 _ = _
  congr 1
  funext a
  apply Fin.ext
  obtain ⟨h0, h1, h2⟩ := index1_4 t
  have h := (cfg1.win 4).rect_emb_val t (ix3 z j k)
  match a with
  | 0 => refine (h 0).trans ?_; rw [h0]; show t.val / 2 * 1 + z.val = t.val / 2; omega
  | 1 => refine (h 1).trans ?_; rw [h1]; show t.val % 2 * 512 + j.val = 512 * (t.val % 2) + j.val; omega
  | 2 => refine (h 2).trans ?_; rw [h2]; show 0 * 2048 + k.val = k.val; omega

/-- The third weights' block. -/
theorem iblk1_5 (c : Dev nD) (t : Fin cfg1.N) (z : Fin 1) (k : Fin 2048) (j : Fin 512) :
    iblk1 V c 5 t (ix3 z k j) = V c main_arg3 (ix3 ⟨t.val / 2, by have := N1_lt t; omega⟩ k ⟨512 * (t.val % 2) + j.val, by omega⟩) := by
  unfold iblk1
  rw [View.read_apply]
  show V c main_arg3 _ = _
  congr 1
  funext a
  apply Fin.ext
  obtain ⟨h0, h1, h2⟩ := index1_5 t
  have h := (cfg1.win 5).rect_emb_val t (ix3 z k j)
  match a with
  | 0 => refine (h 0).trans ?_; rw [h0]; show t.val / 2 * 1 + z.val = t.val / 2; omega
  | 1 => refine (h 1).trans ?_; rw [h1]; show 0 * 2048 + k.val = k.val; omega
  | 2 => refine (h 2).trans ?_; rw [h2]; show t.val % 2 * 512 + j.val = 512 * (t.val % 2) + j.val; omega

/-! The shared call's windows: tokens and a quarter of each weight. -/

/-- The tokens' block is their array. -/
theorem iblk0_0 (c : Dev nD) (t : Fin cfg0.N) (j : Fin 512) (k : Fin 2048) :
    iblk0 V c 0 t (ix2 j k) = V c main_call0_v0 (ix2 j k) := by
  unfold iblk0
  rw [View.read_apply]
  show V c main_call0_v0 _ = _
  congr 1
  funext a
  apply Fin.ext
  obtain ⟨h0, h1⟩ := index0_0 t
  have h := (cfg0.win 0).rect_emb_val t (ix2 j k)
  match a with
  | 0 => refine (h 0).trans ?_; rw [h0]; show 0 * 512 + j.val = j.val; omega
  | 1 => refine (h 1).trans ?_; rw [h1]; show 0 * 2048 + k.val = k.val; omega

/-- A quarter of the hidden units. -/
theorem iblk0_1 (c : Dev nD) (t : Fin cfg0.N) (j : Fin 512) (k : Fin 2048) :
    iblk0 V c 1 t (ix2 j k) = V c main_arg5 (ix2 ⟨512 * t.val + j.val, by have := N0_lt t; omega⟩ k) := by
  unfold iblk0
  rw [View.read_apply]
  show V c main_arg5 _ = _
  congr 1
  funext a
  apply Fin.ext
  obtain ⟨h0, h1⟩ := index0_1 t
  have h := (cfg0.win 1).rect_emb_val t (ix2 j k)
  match a with
  | 0 => refine (h 0).trans ?_; rw [h0]; show t.val * 512 + j.val = 512 * t.val + j.val; omega
  | 1 => refine (h 1).trans ?_; rw [h1]; show 0 * 2048 + k.val = k.val; omega

/-- A quarter of the hidden units. -/
theorem iblk0_2 (c : Dev nD) (t : Fin cfg0.N) (j : Fin 512) (k : Fin 2048) :
    iblk0 V c 2 t (ix2 j k) = V c main_arg6 (ix2 ⟨512 * t.val + j.val, by have := N0_lt t; omega⟩ k) := by
  unfold iblk0
  rw [View.read_apply]
  show V c main_arg6 _ = _
  congr 1
  funext a
  apply Fin.ext
  obtain ⟨h0, h1⟩ := index0_2 t
  have h := (cfg0.win 2).rect_emb_val t (ix2 j k)
  match a with
  | 0 => refine (h 0).trans ?_; rw [h0]; show t.val * 512 + j.val = 512 * t.val + j.val; omega
  | 1 => refine (h 1).trans ?_; rw [h1]; show 0 * 2048 + k.val = k.val; omega

/-- A quarter of the last weight's columns. -/
theorem iblk0_3 (c : Dev nD) (t : Fin cfg0.N) (k : Fin 2048) (j : Fin 512) :
    iblk0 V c 3 t (ix2 k j) = V c main_arg7 (ix2 k ⟨512 * t.val + j.val, by have := N0_lt t; omega⟩) := by
  unfold iblk0
  rw [View.read_apply]
  show V c main_arg7 _ = _
  congr 1
  funext a
  apply Fin.ext
  obtain ⟨h0, h1⟩ := index0_3 t
  have h := (cfg0.win 3).rect_emb_val t (ix2 k j)
  match a with
  | 0 => refine (h 0).trans ?_; rw [h0]; show 0 * 2048 + k.val = k.val; omega
  | 1 => refine (h 1).trans ?_; rw [h1]; show t.val * 512 + j.val = 512 * t.val + j.val; omega

/-- The shared call leaves its result array at the accumulator after the last quarter. -/
theorem arrAt0_4 (c : Dev nD) : (dat0 V c).arrAt 4 cfg0.N = acc0 V c 3 (by decide) := by
  have emb : ∀ (t : Fin cfg0.N) (y : ((cfg0.win 4).xblock (cfg0.grid.coords t)).Idx),
      ((cfg0.win 4).blk t).view.emb y = (y : S512x2048.Idx) := by
    intro t y
    funext a
    apply Fin.ext
    obtain ⟨h0, h1⟩ := index0_4 t
    have h := (cfg0.win 4).rect_emb_val t y
    match a with
    | 0 => refine (h 0).trans ?_; rw [h0]; exact (congrArg (· + _) (Nat.zero_mul _)).trans (Nat.zero_add _)
    | 1 => refine (h 1).trans ?_; rw [h1]; exact (congrArg (· + _) (Nat.zero_mul _)).trans (Nat.zero_add _)
  refine (dat0 V c).arrAt_eq_of_cover 4 (acc0 V c 3 (by decide)) (fun t hf => ?_) fun i => ?_
  · have h := (flush0_4 t).mp hf
    have hlt := N0_lt t
    obtain rfl : t = ⟨3, by decide⟩ := Fin.ext (by show t.val = 3; omega)
    funext y
    rw [View.read_apply, emb]
    show (dat0 V c).after 4 _ _ = _
    rw [after0_4]
    rfl
  · have h := View.emb_mem_set ((cfg0.win 4).blk lastPt0).view (i : S512x2048.Idx)
    exact ⟨lastPt0, (flush0_4 _).mpr rfl, (emb lastPt0 i) ▸ h⟩

/-- The expert call leaves its result array at the output after the last expert. -/
theorem arrAt1_6 (c : Dev nD) : (dat1 V c).arrAt 6 cfg1.N = outAt V c 31 (by decide) := by
  have emb : ∀ (t : Fin cfg1.N) (y : ((cfg1.win 6).xblock (cfg1.grid.coords t)).Idx),
      ((cfg1.win 6).blk t).view.emb y = (y : S512x2048.Idx) := by
    intro t y
    funext a
    apply Fin.ext
    obtain ⟨h0, h1⟩ := index1_6 t
    have h := (cfg1.win 6).rect_emb_val t y
    match a with
    | 0 => refine (h 0).trans ?_; rw [h0]; exact (congrArg (· + _) (Nat.zero_mul _)).trans (Nat.zero_add _)
    | 1 => refine (h 1).trans ?_; rw [h1]; exact (congrArg (· + _) (Nat.zero_mul _)).trans (Nat.zero_add _)
  refine (dat1 V c).arrAt_eq_of_cover 6 (outAt V c 31 (by decide)) (fun t hf => ?_) fun i => ?_
  · have h := (flush1_6 t).mp hf
    have hlt := N1_lt t
    obtain rfl : t = ⟨31, by decide⟩ := Fin.ext (by show t.val = 31; omega)
    funext y
    rw [View.read_apply, emb]
    show (dat1 V c).after 6 _ _ = _
    rw [after1_6]
    rfl
  · have h := View.emb_mem_set ((cfg1.win 6).blk lastPt1).view (i : S512x2048.Idx)
    exact ⟨lastPt1, (flush1_6 _).mpr rfl, (emb lastPt1 i) ▸ h⟩

end Cert.KernelIdeal.Own

end
-- ==== Proof.Math.KResult.lean ====
/- What the kernel's two calls compute: the shared perceptron, and the layer. -/
module

public import proofs.«01_k».proof.Proof.Math.KExpert
public import proofs.«01_k».proof.Proof.Math.Combine
public import proofs.«01_k».proof.Proof.KernelIdeal.Blocks

@[expose] public section

set_option maxRecDepth 16384

noncomputable section

namespace Cert.Moe

open Idealize.ShloMosaic Idealize.ShloMosaic.TcCoe Cert.KernelIdeal Cert.KernelIdeal.Gen Cert.KernelIdeal.Own

section

variable (V : (c : Dev nD) → (b : Ref sig .tc) → Buf (Elt Ideal) ((c : Thread nD τ).loc b)) (c : Dev nD)

/-- The tokens as the calls read them. -/
def tok : FVec Ideal S512x2048 .f32 := V c main_call0_v0
/-- The router's rows as the calls read them. -/
def rows : FVec Ideal S16x2048 .f32 := V c main_arg1
/-- The experts' weights as the calls read them. -/
def ew1 : FVec Ideal S16x1024x2048 .f32 := V c main_arg2
/-- The down weights of the experts. -/
def ew2 : FVec Ideal S16x2048x1024 .f32 := V c main_arg3
/-- The up weights of the experts. -/
def ew3 : FVec Ideal S16x1024x2048 .f32 := V c main_arg4
/-- The shared perceptron's weights as the calls read them. -/
def sw1 : FVec Ideal S2048x2048 .f32 := V c main_arg5
/-- The up weights of the shared experts. -/
def sw3 : FVec Ideal S2048x2048 .f32 := V c main_arg6
/-- The down weights of the shared experts. -/
def sw2 : FVec Ideal S2048x2048 .f32 := V c main_arg7

/-- What the first call leaves for the second. -/
def base : FVec Ideal S512x2048 .f32 := V c main_call0_v1

/-- One step of the shared call adds a quarter of the perceptron. -/
theorem acc_step (s : Fin cfg0.N) (f : FVec Ideal S512x2048 .f32) (t : Fin 512) (h : Fin 2048) :
    k0_pay2 (F := Ideal) (iblk0 V c 0 s) (iblk0 V c 1 s) (iblk0 V c 2 s) f (iblk0 V c 3 s) (ix2 t h)
      = f (ix2 t h) + mlp (mat (tok V c) t)
          (fun j : Fin 512 => mat (sw1 V c) ⟨512 * s.val + j.val, by have := N0_lt s; omega⟩)
          (fun j : Fin 512 => mat (sw3 V c) ⟨512 * s.val + j.val, by have := N0_lt s; omega⟩)
          (fun h (j : Fin 512) => mat (sw2 V c) h ⟨512 * s.val + j.val, by have := N0_lt s; omega⟩) h := by
  rw [pay0_at]
  refine congrArg (f (ix2 t h) + ·) ?_
  unfold mlp hidden mat
  simp only [iblk0_0, iblk0_1, iblk0_2, iblk0_3]
  rfl

/-- The shared call's result is the shared perceptron. -/
theorem shared_value (t : Fin 512) (h : Fin 2048) :
    acc0 V c 3 (by decide) (ix2 t h) = mlp (mat (tok V c) t) (mat (sw1 V c)) (mat (sw3 V c)) (mat (sw2 V c)) h := by
  rw [mlp_blocks (q := 4) (n := 512) rfl _ _ _ _ _ (fun a j => by omega), Fin.sum_univ_four]
  have z : k0_pay1 (F := Ideal) (ix2 t h) = 0 := by pointwise [k0_pay1]
  unfold acc0; rw [acc_step]
  unfold acc0; rw [acc_step]
  unfold acc0; rw [acc_step]
  unfold acc0; rw [acc_step, z, zero_add]
  rfl

/-- The token window of the second call holds all the tokens, at every step. -/
theorem tok_eq (s : Fin cfg1.N) : iblk1 V c 0 s = tok V c := by
  funext i
  rw [eq_ix2 i]
  exact iblk1_0 V c s _ _

/-- The router window of the second call holds all the router's rows. -/
theorem rows_eq (s : Fin cfg1.N) : iblk1 V c 1 s = rows V c := by
  funext i
  rw [eq_ix2 i]
  exact iblk1_1 V c s _ _

/-- The routing table in scratch is the router's table of the tokens. -/
theorem meta_eq : metaV V c = table (tok V c) (rows V c) := by
  unfold metaV table
  rw [tok_eq, rows_eq]

/-- The router's probabilities of the tokens. -/
abbrev pr : Fin 512 → Fin 16 → EReal := probs (mat (tok V c)) (mat (rows V c))

/-- The expert of a step. -/
def ex (s : Fin cfg1.N) : Fin 16 := ⟨s.val / 2, by have := N1_lt s; omega⟩

/-- The even step of a pair works on the pair's expert. -/
theorem stepExpert_even (s : Fin cfg1.N) : stepExpert (grid1.coords (evenPt s)) = ex s := by
  refine Fin.ext ?_
  show (grid1.coords (evenPt s) 0).val = s.val / 2
  rw [coords1]
  show 2 * (s.val / 2) / 2 = s.val / 2
  omega

/-- Half of an expert's perceptron on the place's row, at a step. -/
theorem half_value (s : Fin cfg1.N) (b : Fin 2) (hb : s.val % 2 = b.val)
    (f : FVec Ideal S256x2048 .bf16) (p : Fin 256) (h : Fin 2048) :
    k1_pay19 (F := Ideal) (iblk1 V c 3 s) (iblk1 V c 4 s) (iblk1 V c 5 s) f (ix2 p h)
      = mlp (mat f p) (fun j : Fin 512 => cube (ew1 V c) (ex s) ⟨512 * b.val + j.val, by omega⟩)
          (fun j : Fin 512 => cube (ew3 V c) (ex s) ⟨512 * b.val + j.val, by omega⟩)
          (fun h (j : Fin 512) => cube (ew2 V c) (ex s) h ⟨512 * b.val + j.val, by omega⟩) h := by
  obtain ⟨b, hb2⟩ := b
  dsimp only at hb
  subst hb
  rw [pay19_at]
  unfold mlp hidden
  simp only [iblk1_3, iblk1_4, iblk1_5]
  rfl

/-- The layer's result of the arrays as the calls read them, less the shared perceptron. -/
def part (e : Fin 16) (t : Fin 512) (h : Fin 2048) : EReal :=
  contrib (pr V c) (mat (tok V c)) (cube (ew1 V c)) (cube (ew3 V c)) (cube (ew2 V c)) e t h

variable (hp : ∀ t e, -1 < pr V c t e)
include hp

/-- The dispatched rows are the expert's places. -/
theorem rows_value (s : Fin cfg1.N) (p : Fin 256) : mat (φ := .bf16) (xbbAt V c s) p = slot (pr V c) (mat (tok V c)) (ex s) p.val := by
  funext h
  show xbbAt V c s (ix2 p h) = _
  unfold xbbAt
  rw [meta_eq, tok_eq, pay18_at _ _ hp, stepExpert_even]

/-- A step that closes an expert adds that expert's contribution. -/
theorem out_step (s : Fin cfg1.N) (h2 : s.val % 2 = 1) (o : FVec Ideal S512x2048 .f32) (t : Fin 512) (h : Fin 2048) :
    k1_pay21 (F := Ideal) (iblk1 V c 3 s) (iblk1 V c 4 s) (iblk1 V c 5 s) (xbbAt V c s) (ybAt V c s) o (wselAt V c s) (ix2 t h)
      = o (ix2 t h) + part V c (ex s) t h := by
  rw [pay21_at]
  refine congrArg (o (ix2 t h) + ·) ?_
  unfold part contrib
  refine Finset.sum_congr rfl fun p _ => ?_
  have ew : wselAt V c s (ix2 t p) = ∑ k : Fin 2, if hit (pr V c) k t (ex s) p.val then weight (pr V c) k t else 0 := by
    unfold wselAt
    rw [meta_eq, pay17_at _ _ hp, stepExpert_even]
  have ee : ex (evenPt s) = ex s := Fin.ext (by show 2 * (s.val / 2) / 2 = s.val / 2; omega)
  have ey := pay20_eq (iblk1 V c 3 (evenPt s)) (iblk1 V c 4 (evenPt s)) (iblk1 V c 5 (evenPt s)) (xbbAt V c s) p h
  rw [half_value V c (evenPt s) 0 (by show 2 * (s.val / 2) % 2 = 0; omega), ee] at ey
  rw [ew, half_value V c s 1 h2]
  refine congrArg _ ?_
  unfold ybAt
  rw [ey, rows_value V c hp, mlp_blocks (q := 2) (n := 512) rfl _ _ _ _ _ (fun a j => by omega), Fin.sum_univ_two]

omit hp in
/-- The first step starts from what the first call left. -/
theorem first_out (s : Fin cfg1.N) (t : Fin 512) (h : Fin 2048) : k1_pay1 (F := Ideal) (iblk1 V c 2 s) (ix2 t h) = base V c (ix2 t h) := by
  have e : ∀ x : FVec Ideal S512x2048 .f32, k1_pay1 (F := Ideal) x (ix2 t h) = x (ix2 t h) := fun x => by pointwise [k1_pay1]
  rw [e]
  exact iblk1_2 V c s t h

omit hp in
/-- Equal step numbers give equal outputs. -/
theorem outAt_at {n m : ℕ} (e : n = m) (hn : n < cfg1.N) (hm : m < cfg1.N) : outAt V c n hn = outAt V c m hm := by subst e; rfl

/-- After an expert's last step, the output holds the shared part and the contributions so far. -/
theorem out_odd (t : Fin 512) (h : Fin 2048) : ∀ (n : ℕ) (hn : 2 * n + 1 < cfg1.N), outAt V c (2 * n + 1) hn (ix2 t h)
    = base V c (ix2 t h) + ∑ e ∈ Finset.range (n + 1), if he : e < 16 then part V c ⟨e, he⟩ t h else 0 := by
  intro n
  induction n with
  | zero =>
    intro hn
    have e0 : outAt V c ((⟨1, hn⟩ : Fin cfg1.N).val - 1) (Nat.lt_of_le_of_lt (Nat.sub_le _ _) hn) = k1_pay1 (iblk1 V c 2 ⟨0, by decide⟩) :=
      (outAt_at V c (m := 0) rfl _ (by decide)).trans (outAt_zero V c ⟨0, by decide⟩ rfl)
    refine (congrFun (outAt_step V c ⟨1, hn⟩ rfl) (ix2 t h)).trans ?_
    rw [out_step V c hp ⟨1, hn⟩ rfl, e0, Finset.sum_range_one, dif_pos (by decide)]
    rw [first_out, show ex ⟨1, hn⟩ = (⟨0, by decide⟩ : Fin 16) from Fin.ext (by show 1 / 2 = 0; omega)]
  | succ n ih =>
    intro hn
    have h16 : n + 1 < 16 := by have := N1_lt ⟨_, hn⟩; dsimp only at this; omega
    have e0 : outAt V c ((⟨2 * (n + 1) + 1, hn⟩ : Fin cfg1.N).val - 1) (Nat.lt_of_le_of_lt (Nat.sub_le _ _) hn)
        = outAt V c (2 * n + 1) (by omega) :=
      (outAt_at V c rfl _ (by omega)).trans ((outAt_even V c ⟨2 * (n + 1), by omega⟩ (by dsimp only; omega) (by dsimp only; omega)).trans
        (outAt_at V c rfl _ (by omega)))
    refine (congrFun (outAt_step V c ⟨2 * (n + 1) + 1, hn⟩ (by dsimp only; omega)) (ix2 t h)).trans ?_
    rw [out_step V c hp ⟨_, hn⟩ (by dsimp only; omega),
      e0, ih, Finset.sum_range_succ _ (n + 1), dif_pos h16, add_assoc]
    rw [show ex ⟨2 * (n + 1) + 1, hn⟩ = (⟨n + 1, h16⟩ : Fin 16) from Fin.ext (by show (2 * (n + 1) + 1) / 2 = n + 1; omega)]

/-- The second call's result: what the first one left, and the sparse part. -/
theorem out_value (t : Fin 512) (h : Fin 2048) : outAt V c 31 (by decide) (ix2 t h)
    = base V c (ix2 t h)
      + sparse (pr V c) (mat (tok V c)) (cube (ew1 V c)) (cube (ew3 V c)) (cube (ew2 V c)) t h := by
  rw [← sum_contrib _ _ _ _ _ hp]
  refine (out_odd V c hp t h 15 (by decide)).trans ?_
  rw [Finset.sum_range]
  refine congrArg (_ + ·) (Finset.sum_congr rfl fun e _ => ?_)
  exact dif_pos e.isLt

end

end Cert.Moe

end
-- ==== Proof.Math.KOut.lean ====
/- What the kernel's program leaves in its result: the layer of the arguments. -/
module

public import proofs.«01_k».proof.Proof.Math.KResult
public import proofs.«01_k».proof.Proof.KernelIdeal.Run

@[expose] public section

set_option maxRecDepth 16384

noncomputable section

namespace Cert.Moe

open Idealize.ShloMosaic Idealize.ShloMosaic.TcCoe Cert.KernelIdeal Cert.KernelIdeal.Gen Cert.KernelIdeal.Own

/-- The tokens: the hidden states' rows, one after another. -/
def flat (x : FVec Ideal S64x8x2048 .f32) : FVec Ideal S512x2048 .f32 := shapeCast S512x2048 x shapeCasts_S64x8x2048_S512x2048

/-- The layer's result as an array of the hidden states' shape. -/
def result (x : FVec Ideal S64x8x2048 .f32) (r : FVec Ideal S16x2048 .f32) (w1 : FVec Ideal S16x1024x2048 .f32) (w2 : FVec Ideal S16x2048x1024 .f32)
    (w3 : FVec Ideal S16x1024x2048 .f32) (gw uw dw : FVec Ideal S2048x2048 .f32) : FVec Ideal S64x8x2048 .f32 :=
  shapeCast S64x8x2048 (fun i : S512x2048.Idx => layer (mat (flat x)) (mat r) (cube w1) (cube w2) (cube w3) (mat gw) (mat uw) (mat dw) (i 0) (i 1))
    Cert.KernelIdeal.Gen.shapeCasts_S512x2048_S64x8x2048

variable (m : (ℓ : Loc nD τ sig) → Buf (Elt Ideal) ℓ) (ρ : Dev nD → PrngReg) (c : Dev nD)

/-- The first call reads the flattened hidden states. -/
theorem tok_V1 : tok (Own.V1 m ρ) c = flat (m ((c : Thread nD τ).loc main_arg0)) := by
  show W1 m ρ c (Proc.devRef .tc main_call0_v0) = _
  unfold W1
  rw [StableHlo.after_cons]
  rfl

/-- The program's result is the second call's output, reshaped. -/
theorem out_main : W4 m ρ c (Proc.devRef .tc main_v0) = shapeCast S64x8x2048 (W3 m ρ c (Proc.devRef .tc main_call0_v2)) shapeCasts_S512x2048_S64x8x2048 := by
  unfold W4
  rw [StableHlo.after_cons]
  rfl

/-- The second call reads the flattened hidden states. -/
theorem tok_V2 : tok (Own.V2 m ρ) c = flat (m ((c : Thread nD τ).loc main_arg0)) :=
  (W2_of m ρ c main_call0_v0 (by decide)).trans (tok_V1 m ρ c)

/-- The second call starts from the shared experts' sum. -/
theorem base_V2 (t : Fin 512) (h : Fin 2048) : base (Own.V2 m ρ) c (ix2 t h)
    = mlp (mat (flat (m ((c : Thread nD τ).loc main_arg0))) t) (mat (φ := .f32) (m ((c : Thread nD τ).loc main_arg5)))
        (mat (φ := .f32) (m ((c : Thread nD τ).loc main_arg6))) (mat (φ := .f32) (m ((c : Thread nD τ).loc main_arg7))) h := by
  have e : base (Own.V2 m ρ) c = acc0 (Own.V1 m ρ) c 3 (by decide) := (W2_arr m ρ c 4).trans (arrAt0_4 (Own.V1 m ρ) c)
  have e5 : sw1 (Own.V1 m ρ) c = m ((c : Thread nD τ).loc main_arg5) := W1_args m ρ c main_arg5 (by decide)
  have e6 : sw3 (Own.V1 m ρ) c = m ((c : Thread nD τ).loc main_arg6) := W1_args m ρ c main_arg6 (by decide)
  have e7 : sw2 (Own.V1 m ρ) c = m ((c : Thread nD τ).loc main_arg7) := W1_args m ρ c main_arg7 (by decide)
  rw [e, shared_value, tok_V1, e5, e6, e7]

/-- With the router's probabilities above −1, the program leaves the layer of its arguments. -/
theorem kernel_value
    (hp : ∀ t e, -1 < probs (mat (flat (m ((c : Thread nD τ).loc main_arg0)))) (mat (φ := .f32) (m ((c : Thread nD τ).loc main_arg1))) t e) :
    W4 m ρ c (Proc.devRef .tc main_v0) = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  rw [out_main]
  unfold result
  refine congrArg (fun x => shapeCast S64x8x2048 x shapeCasts_S512x2048_S64x8x2048) ?_
  refine ((W3_arr m ρ c 6).trans (arrAt1_6 (Own.V2 m ρ) c)).trans ?_
  have e1 : rows (Own.V2 m ρ) c = m ((c : Thread nD τ).loc main_arg1) := W2_args m ρ c main_arg1 (by decide)
  have e2 : ew1 (Own.V2 m ρ) c = m ((c : Thread nD τ).loc main_arg2) := W2_args m ρ c main_arg2 (by decide)
  have e3 : ew2 (Own.V2 m ρ) c = m ((c : Thread nD τ).loc main_arg3) := W2_args m ρ c main_arg3 (by decide)
  have e4 : ew3 (Own.V2 m ρ) c = m ((c : Thread nD τ).loc main_arg4) := W2_args m ρ c main_arg4 (by decide)
  have hp' : ∀ t e, -1 < pr (Own.V2 m ρ) c t e := by
    unfold pr
    rw [tok_V2, e1]
    exact hp
  funext i
  obtain ⟨t, h, rfl⟩ : ∃ (t : Fin 512) (h : Fin 2048), i = ix2 t h := ⟨i 0, i 1, eq_ix2 i⟩
  rw [out_value _ _ hp', base_V2]
  unfold pr
  rw [tok_V2, e1, e2, e3, e4, add_comm]
  rfl

end Cert.Moe

end
-- ==== Proof.Math.RRouter.lean ====
/- The reference's router: its probabilities, its two best experts, their weights. -/
module

public import proofs.«01_k».proof.Proof.Gen.ReferenceIdeal.Read
public import proofs.«01_k».proof.Proof.Math.Model
public import Idealize.ShloMosaic.Lib.Pointwise

@[expose] public section

noncomputable section

namespace Cert.Moe

open Idealize.ShloMosaic Cert.ReferenceIdeal Cert.ReferenceIdeal.Gen Cert.ReferenceIdeal.Read

variable (x0 : FVec Ideal S64x8x2048 .f32) (x1 : FVec Ideal S16x2048 .f32)

/-- The reference's tokens. -/
abbrev rx : Fin 512 → Fin 2048 → EReal := mat (φ := .f32) (val_main_v0 (F := Ideal) x0)

/-- The reference's probabilities, in the model's words. -/
abbrev rp : Fin 512 → Fin 16 → EReal := probs (rx x0) (mat x1)

/-- The reference's logits. -/
theorem v2_at (t : Fin 512) (e : Fin 16) : val_main_v2 (F := Ideal) x0 x1 (ix2 t e) = logits (rx x0) (mat x1) t e := by
  pointwise [val_main_v2, val_main_v1]
  rfl

/-- The largest logit of a token. -/
theorem v3_at (t : Fin 512) : val_main_v3 (F := Ideal) x0 x1 (ix1 t) = top (logits (rx x0) (mat x1) t) := by
  pointwise [val_main_v3, val_main_cst]
  simp only [v2_at]
  rw [neg_inf_value]
  rfl

/-- The reference's probabilities. -/
theorem v13_at (t : Fin 512) (e : Fin 16) : val_main_v13 (F := Ideal) x0 x1 (ix2 t e) = rp x0 x1 t e := by
  pointwise [val_main_v13, val_main_v12, val_main_v11, val_main_v10, val_main_cst_1, val_main_v9, val_main_v8, val_main_v7, val_main_v6, val_main_v5, val_main_v4, val_main_cst_0]
  simp only [v2_at, v3_at]
  rw [neg_inf_value, max_eq_right bot_le]
  rfl

/-- The comparison the sort uses. -/
theorem cmp_gt (a b : EReal) : (FloatOps.cmpfTotal (F := Ideal) (φ := .f32) .gt a b == 1#1) = decide (b < a) := by
  show (Ideal.cmp CmpDirection.gt.ordered a b == 1#1) = _
  unfold Ideal.cmp
  by_cases h : b < a <;> simp [h, CmpDirection.ordered]

/-- A row's element with its column replaced. -/
theorem along_at {a b : ℕ} (t : Fin a) (j k : Fin b) : (ix2 t j).along 1 k = ix2 t k := by
  funext d
  unfold Shape.Idx.along
  match d with
  | ⟨0, _⟩ => rfl
  | ⟨1, _⟩ => rfl

variable (hp : ∀ t e, -1 < rp x0 x1 t e)
include hp

/-- The sort of a row's probabilities puts the two best experts first. -/
theorem sorted_at (t : Fin 512) (k : Fin 2) (j : Fin 16) :
    sortedFrom (fun a b : Fin 16 => FloatOps.cmpfTotal (F := Ideal) (φ := .f32) .gt (val_main_v13 (F := Ideal) x0 x1 ((ix2 t j).along 1 a))
      (val_main_v13 (F := Ideal) x0 x1 ((ix2 t j).along 1 b)) == 1#1) (k.castLE (by decide)) = expert (rp x0 x1) k t := by
  refine Eq.trans ?_ (sortedFrom_top2 (hp t) k)
  refine congrArg (fun r => sortedFrom r (k.castLE (by decide))) ?_
  funext a b
  rw [along_at, along_at, v13_at, v13_at, cmp_gt]
  rfl

/-- The k-th index the sort gives is the k-th expert. -/
theorem indices_at (t : Fin 512) (k : Fin 2) : val_main_indices (F := Ideal) x0 x1 (ix2 t k) = BitVec.ofNat 32 (expert (rp x0 x1) k t).val := by
  unfold val_main_indices Host.topK
  pointwise [Host.sort2]
  refine congrArg (fun e : Fin 16 => BitVec.ofNat 32 e.val) ?_
  refine Eq.trans ?_ (sorted_at x0 x1 hp t k ⟨k.val, by omega⟩)
  exact congrFun (along_at _ _ _) 1

/-- The k-th value the sort gives is the k-th expert's probability. -/
theorem values_at (t : Fin 512) (k : Fin 2) : val_main_values (F := Ideal) x0 x1 (ix2 t k) = rp x0 x1 t (expert (rp x0 x1) k t) := by
  unfold val_main_values Host.topK
  pointwise [Host.sort2]
  refine (congrArg _ ((along_at _ _ _).trans (congrArg (ix2 t) (sorted_at x0 x1 hp t k ⟨k.val, by omega⟩)))).trans (v13_at x0 x1 _ _)

/-- The two weights of a token. -/
theorem v17_at (t : Fin 512) (k : Fin 2) : val_main_v17 (F := Ideal) x0 x1 (ix2 t k) = weight (rp x0 x1) k t := by
  pointwise [val_main_v17, val_main_v16, val_main_v15, val_main_v14, val_main_cst_2]
  simp only [values_at x0 x1 hp]
  rw [Fin.sum_univ_two]
  rfl

end Cert.Moe

end
-- ==== Proof.Math.RSlots.lean ====
/- The reference's places: a running count over the flattened choices gives every choice its place at its expert. -/
module

public import proofs.«01_k».proof.Proof.Math.RRouter
public import Idealize.ShloMosaic.Lib.Routing.OpsOne

@[expose] public section

noncomputable section

namespace Cert.Moe

open Idealize.ShloMosaic Cert.ReferenceIdeal Cert.ReferenceIdeal.Gen Cert.ReferenceIdeal.Read

/-- The token of a flattened choice. -/
def tokOf (n : Fin 1024) : Fin 512 := ⟨n.val / 2, by omega⟩
/-- Which of the token's two choices it is. -/
def chOf (n : Fin 1024) : Fin 2 := ⟨n.val % 2, by omega⟩

/-- The expert of a flattened choice. -/
def exOf (p : Fin 512 → Fin 16 → EReal) (n : Fin 1024) : Fin 16 := expert p (chOf n) (tokOf n)

/-- The flattened choice of a token. -/
def flatCh (t : Fin 512) (k : Fin 2) : Fin 1024 := ⟨2 * t.val + k.val, by omega⟩

/-- The token of a flat choice. -/
theorem tokOf_flat (t : Fin 512) (k : Fin 2) : tokOf (flatCh t k) = t := Fin.ext (by show (2 * t.val + k.val) / 2 = t.val; omega)
/-- The rank of a flat choice. -/
theorem chOf_flat (t : Fin 512) (k : Fin 2) : chOf (flatCh t k) = k := Fin.ext (by show (2 * t.val + k.val) % 2 = k.val; omega)
/-- The expert of a flat choice. -/
theorem exOf_flat (p : Fin 512 → Fin 16 → EReal) (t : Fin 512) (k : Fin 2) : exOf p (flatCh t k) = expert p k t := by
  unfold exOf
  rw [chOf_flat, tokOf_flat]

/-- A sum over the flattened choices is the sum over the tokens and their two choices. -/
theorem sum_flat {M : Type} [AddCommMonoid M] (f : Fin 1024 → M) : ∑ n, f n = ∑ t : Fin 512, ∑ k : Fin 2, f (flatCh t k) := by
  rw [← Fintype.sum_prod_type']
  refine (Fintype.sum_equiv (finProdFinEquiv (m := 512) (n := 2)) _ _ fun z => ?_).symm
  refine congrArg f (Fin.ext ?_)
  rw [finProdFinEquiv_apply_val]
  exact Nat.add_comm _ _

/-- The choices up to a given one that go to its expert: those of earlier tokens, and itself. -/
theorem rank_eq {p : Fin 512 → Fin 16 → EReal} (hp : ∀ t e, -1 < p t e) (n : Fin 1024) :
    (∑ w : Fin 1024, if w ≤ n then (if exOf p w = exOf p n then 1 else 0) else 0) = cnt p (tokOf n) (exOf p n) + 1 := by
  have e2 : (1 : ℕ) = ∑ s : Fin 512, if s = tokOf n then 1 else 0 := by rw [Finset.sum_ite_eq' Finset.univ (tokOf n), if_pos (Finset.mem_univ _)]
  rw [sum_flat]
  refine Eq.trans ?_ (congrArg (cnt p (tokOf n) (exOf p n) + ·) e2.symm)
  unfold cnt
  rw [← Finset.sum_add_distrib]
  refine Finset.sum_congr rfl fun s _ => ?_
  simp only [exOf_flat]
  rcases lt_trichotomy s (tokOf n) with h | h | h
  · have hv : s.val < n.val / 2 := h
    have hn : ∀ k : Fin 2, (flatCh s k ≤ n) := fun k => by
      show 2 * s.val + k.val ≤ n.val
      omega
    simp only [hn, h, if_true, ne_of_lt h, if_false, Nat.add_zero]
  · subst h
    have hn : ∀ k : Fin 2, (flatCh (tokOf n) k ≤ n) ↔ k.val ≤ n.val % 2 := fun k => by
      show 2 * (n.val / 2) + k.val ≤ n.val ↔ _
      omega
    rw [if_neg (lt_irrefl _), if_pos rfl, Fin.sum_univ_two]
    simp only [hn]
    have he := expert_ne p hp (tokOf n)
    unfold exOf
    rcases Nat.mod_two_eq_zero_or_one n.val with hm | hm
    · have hc : chOf n = 0 := Fin.ext hm
      rw [hc, hm, if_pos (by decide), if_pos rfl, if_neg (by decide)]
    · have hc : chOf n = 1 := Fin.ext hm
      rw [hc, hm, if_pos (by decide), if_neg he.symm, if_pos (by decide), if_pos rfl]
  · have hv : n.val / 2 < s.val := h
    have hn : ∀ k : Fin 2, ¬ (flatCh s k ≤ n) := fun k => by
      show ¬ 2 * s.val + k.val ≤ n.val
      omega
    simp only [hn, not_lt_of_gt h, if_false, ne_of_gt h, Finset.sum_const_zero, Nat.add_zero]

/-- The word of a sum is the sum of the words. -/
theorem ofNat_sum (f : Fin 1024 → ℕ) : BitVec.ofNat 32 (∑ w, f w) = ∑ w, BitVec.ofNat 32 (f w) := by
  simp only [← BitVec.natCast_eq_ofNat]
  exact Nat.cast_sum _ _

/-- Comparing two small words as signed numbers compares the numbers. -/
theorem slt_small {a b : ℕ} (ha : a < 2 ^ 31) (hb : b < 2 ^ 31) : (BitVec.ofNat 32 a).slt (BitVec.ofNat 32 b) = decide (a < b) := by
  rw [BitVec.slt_eq_decide, WordArith.toInt_ofNat_small a ha, WordArith.toInt_ofNat_small b hb]
  exact decide_eq_decide.mpr Int.ofNat_lt

/-- A small word is not negative, so the wrapped index is the index itself. -/
theorem select_small {a : ℕ} (ha : a < 2 ^ 31) (b : BitVec 32) :
    Scalar.select (IntOp.cmpi .slt (BitVec.ofNat 32 a) 0#32) b (BitVec.ofNat 32 a) = BitVec.ofNat 32 a := by
  have h : (BitVec.ofNat 32 a).slt 0#32 = false := (slt_small ha (b := 0) (by decide)).trans (decide_eq_false (Nat.not_lt_zero _))
  unfold IntOp.cmpi
  dsimp only
  rw [h]
  rfl

/-- A sum of words that is zero but at one place. -/
theorem fold_addi_single (E : Fin 16) (f : Fin 16 → BitVec 32) (h : ∀ e, e ≠ E → f e = 0#32) :
    Finset.fold IntOp.addi (0#32) f Finset.univ = f E := by
  have e : Finset.fold IntOp.addi (0#32) f Finset.univ = ∑ e, f e := rfl
  rw [e]
  exact Finset.sum_eq_single E (fun e _ hne => h e hne) fun h => absurd (Finset.mem_univ _) h

variable (x0 : FVec Ideal S64x8x2048 .f32) (x1 : FVec Ideal S16x2048 .f32) (hp : ∀ t e, -1 < rp x0 x1 t e)
include hp

/-- The flattened expert numbers. -/
theorem v18_at (n : Fin 1024) : val_main_v18 (F := Ideal) x0 x1 (ix1 n) = BitVec.ofNat 32 (exOf (rp x0 x1) n).val := by
  pointwise [val_main_v18]
  exact indices_at x0 x1 hp _ _

/-- The one-hot rows of the flattened choices. -/
theorem v19_at (n : Fin 1024) (e : Fin 16) : val_main_v19 (F := Ideal) x0 x1 (ix2 n e) = BitVec.ofNat 32 (if exOf (rp x0 x1) n = e then 1 else 0) := by
  pointwise [val_main_v19, val_main_call0_v4, val_main_call0_v3, val_main_call0_v2, val_main_call0_v1, val_main_call0_v0]
  rw [v18_at x0 x1 hp]
  generalize exOf (rp x0 x1) n = a
  revert a e
  decide

/-- The place of a flattened choice at its expert. -/
def plc (n : Fin 1024) : ℕ := cnt (rp x0 x1) (tokOf n) (exOf (rp x0 x1) n)

/-- The running count at a choice's own expert: its place plus one. -/
theorem v20_at (n : Fin 1024) : val_main_v20 (F := Ideal) x0 x1 (ix2 n (exOf (rp x0 x1) n)) = BitVec.ofNat 32 (plc x0 x1 n + 1) := by
  unfold val_main_v20
  refine (Routing.cumsum_rows_sum (Am1 := 1023) rfl (val_main_v19 (F := Ideal) x0 x1) (val_main_call1_call0_v0 (F := Ideal)) rfl _ _ n (exOf (rp x0 x1) n)).trans ?_
  unfold plc
  rw [← rank_eq hp, ofNat_sum]
  refine Finset.sum_congr rfl fun w _ => ?_
  by_cases h : w ≤ n
  · rw [if_pos h, if_pos h]
    exact v19_at x0 x1 hp w _
  · rw [if_neg h, if_neg h]; rfl

/-- The count kept by the one-hot row: the place plus one. -/
theorem v22_at (n : Fin 1024) : val_main_v22 (F := Ideal) x0 x1 (ix1 n) = BitVec.ofNat 32 (plc x0 x1 n + 1) := by
  pointwise [val_main_v22, val_main_v21, val_main_c]
  refine (fold_addi_single (exOf (rp x0 x1) n) _ fun e he => ?_).trans ?_
  · rw [v19_at x0 x1 hp, if_neg he.symm]
    exact BitVec.mul_zero
  · rw [v19_at x0 x1 hp, if_pos rfl, v20_at x0 x1 hp]
    exact BitVec.mul_one _

/-- The place of a choice with its expert. -/
theorem v24_at (n : Fin 1024) : val_main_v24 (F := Ideal) x0 x1 (ix1 n) = BitVec.ofNat 32 (plc x0 x1 n) := by
  pointwise [val_main_v24, val_main_v23, val_main_c_3]
  rw [v22_at x0 x1 hp]
  show BitVec.ofNat 32 (plc x0 x1 n + 1) - 1#32 = _
  rw [BitVec.ofNat_add]
  exact BitVec.add_sub_cancel _ _

omit hp in
/-- A place is small enough for a 32-bit integer. -/
theorem plc_lt (n : Fin 1024) : plc x0 x1 n < 2 ^ 31 := Nat.lt_of_le_of_lt (cnt_le _ _ _) (by decide)

/-- A choice is kept when its place is within capacity. -/
theorem v26_at (n : Fin 1024) : val_main_v26 (F := Ideal) x0 x1 (ix1 n) = if plc x0 x1 n < 256 then 1#1 else 0#1 := by
  pointwise [val_main_v26, val_main_v25, val_main_c_4]
  rw [v24_at x0 x1 hp]
  unfold IntOp.cmpi
  dsimp only
  rw [slt_small (plc_lt x0 x1 n) (by decide)]
  by_cases h : plc x0 x1 n < 256
  · rw [if_pos h, decide_eq_true h]; rfl
  · rw [if_neg h, decide_eq_false h]; rfl

/-- The place, kept within capacity. -/
theorem v27_at (n : Fin 1024) : val_main_v27 (F := Ideal) x0 x1 (ix1 n) = BitVec.ofNat 32 (min 255 (plc x0 x1 n)) := by
  pointwise [val_main_v27, val_main_call2_v4, val_main_call2_v3, val_main_call2_v2, val_main_call2_v1, val_main_call2_v0, val_main_c_5, val_main_c_6]
  rw [v24_at x0 x1 hp]
  have h0 : IntOp.maxsi (id (constantI S_ 32 0#32) ix0) (BitVec.ofNat 32 (plc x0 x1 n)) = BitVec.ofNat 32 (plc x0 x1 n) := by
    show (if (BitVec.ofNat 32 (plc x0 x1 n)).slt (BitVec.ofNat 32 0) then BitVec.ofNat 32 0 else _) = _
    rw [slt_small (plc_lt x0 x1 n) (by decide), decide_eq_false (Nat.not_lt_zero _)]
    rfl
  rw [h0]
  show (if (BitVec.ofNat 32 255).slt (BitVec.ofNat 32 (plc x0 x1 n)) then BitVec.ofNat 32 255 else BitVec.ofNat 32 (plc x0 x1 n)) = _
  rw [slt_small (by decide) (plc_lt x0 x1 n)]
  by_cases h : 255 < plc x0 x1 n
  · rw [decide_eq_true h, if_pos rfl, Nat.min_eq_left (Nat.le_of_lt h)]
  · rw [decide_eq_false h, if_neg Bool.false_ne_true, Nat.min_eq_right (Nat.le_of_not_lt h)]

/-- The scatter's first index is the expert. -/
theorem v45_0 (n : Fin 1024) : val_main_v45 (F := Ideal) x0 x1 (ix2 n 0) = BitVec.ofNat 32 (exOf (rp x0 x1) n).val := by
  pointwise [val_main_v45, val_main_v43, val_main_v37, val_main_v36, val_main_v35, val_main_v34, val_main_v33, val_main_c_9, val_main_c_10]
  rw [v18_at x0 x1 hp]
  exact select_small (by omega) _
/-- The scatter's second index is the place, capped. -/
theorem v45_1 (n : Fin 1024) : val_main_v45 (F := Ideal) x0 x1 (ix2 n 1) = BitVec.ofNat 32 (min 255 (plc x0 x1 n)) := by
  pointwise [val_main_v45, val_main_v44, val_main_v42, val_main_v41, val_main_v40, val_main_v39, val_main_v38, val_main_c_11, val_main_c_12]
  rw [v27_at x0 x1 hp]
  exact select_small (by omega) _

/-- The gather's first index is the expert. -/
theorem v65_0 (n : Fin 1024) : val_main_v65 (F := Ideal) x0 x1 (ix2 n 0) = BitVec.ofNat 32 (exOf (rp x0 x1) n).val := by
  pointwise [val_main_v65, val_main_v63, val_main_v57, val_main_v56, val_main_v55, val_main_v54, val_main_v53, val_main_c_13, val_main_c_14]
  rw [v18_at x0 x1 hp]
  exact select_small (by omega) _
/-- The gather's second index is the place, capped. -/
theorem v65_1 (n : Fin 1024) : val_main_v65 (F := Ideal) x0 x1 (ix2 n 1) = BitVec.ofNat 32 (min 255 (plc x0 x1 n)) := by
  pointwise [val_main_v65, val_main_v64, val_main_v62, val_main_v61, val_main_v60, val_main_v59, val_main_v58, val_main_c_15, val_main_c_16]
  rw [v27_at x0 x1 hp]
  exact select_small (by omega) _

/-- The rows scattered: the token's row, or zero past the capacity. -/
theorem v31_at (n : Fin 1024) (h : Fin 2048) : val_main_v31 (F := Ideal) x0 x1 (ix2 n h) = if plc x0 x1 n < 256 then rx x0 (tokOf n) h else 0 := by
  pointwise [val_main_v31, val_main_call3_v2, val_main_call3_v1, val_main_call3_v0, val_main_cst_7, val_main_v30, val_main_v29, val_main_v28]
  rw [v26_at x0 x1 hp]
  by_cases hc : plc x0 x1 n < 256
  · rw [if_pos hc, if_pos hc]; rfl
  · rw [if_neg hc, if_neg hc]
    exact Ideal.ofBits_zero FTy.f32

end Cert.Moe

end
-- ==== Proof.Math.RExpert.lean ====
/- The reference's buffer, experts and gathered rows. -/
module

public import proofs.«01_k».proof.Proof.Math.RSlots

@[expose] public section

noncomputable section

namespace Cert.Moe

open Idealize.ShloMosaic Cert.ReferenceIdeal Cert.ReferenceIdeal.Gen Cert.ReferenceIdeal.Read

/-- The scatter's dimensions. -/
abbrev sd : ScatterDims S16x256x2048 S1024x2 S1024x2048 := scatter_S16x256x2048_S1024x2_S1024x2048_1_01_01_1

/-- The scatter moves nothing along the expert axis within a row. -/
theorem sd_window0 (n : Fin 1024) (h : Fin 2048) : sd.window (ix2 n h) 0 = 0 := rfl
/-- The scatter moves nothing along the slot axis within a row. -/
theorem sd_window1 (n : Fin 1024) (h : Fin 2048) : sd.window (ix2 n h) 1 = 0 := rfl
/-- The scatter's column is the row's column. -/
theorem sd_window2 (n : Fin 1024) (h : Fin 2048) : sd.window (ix2 n h) 2 = h.val := rfl
/-- The scatter reads a row's expert at column 0 of its indices. -/
theorem sd_si0 (n : Fin 1024) (h : Fin 2048) : sd.siIdx (ix2 n h) ⟨0, by decide⟩ = ix2 n 0 := by
  funext a
  match a with
  | ⟨0, _⟩ => rfl
  | ⟨1, _⟩ => rfl
/-- The scatter reads a row's slot at column 1 of its indices. -/
theorem sd_si1 (n : Fin 1024) (h : Fin 2048) : sd.siIdx (ix2 n h) ⟨1, by decide⟩ = ix2 n 1 := by
  funext a
  match a with
  | ⟨0, _⟩ => rfl
  | ⟨1, _⟩ => rfl
/-- The scatter's expert is the row's first index. -/
theorem sd_start0 (n : Fin 1024) (h : Fin 2048) (idx : IVec S1024x2 32) : sd.start (ix2 n h) idx 0 = (idx (ix2 n 0)).toInt := by
  rw [← sd_si0 n h]; rfl
/-- The scatter's slot is the row's second index. -/
theorem sd_start1 (n : Fin 1024) (h : Fin 2048) (idx : IVec S1024x2 32) : sd.start (ix2 n h) idx 1 = (idx (ix2 n 1)).toInt := by
  rw [← sd_si1 n h]; rfl
/-- The scatter starts every row at column 0. -/
theorem sd_start2 (n : Fin 1024) (h : Fin 2048) (idx : IVec S1024x2 32) : sd.start (ix2 n h) idx 2 = 0 := rfl

/-- The gather's dimensions. -/
abbrev gd : GatherDims S16x256x2048 S1024x2 S1024x2048 := gather_S16x256x2048_S1024x2_S1024x2048_1_01_n_n_01_1_112048
/-- The gather reads a row's expert at column 0 of its indices. -/
theorem gd_si0 (n : Fin 1024) (h : Fin 2048) : gd.siIdx (ix2 n h) ⟨0, by decide⟩ = ix2 n 0 := by
  funext a
  match a with
  | ⟨0, _⟩ => rfl
  | ⟨1, _⟩ => rfl
/-- The gather reads a row's slot at column 1 of its indices. -/
theorem gd_si1 (n : Fin 1024) (h : Fin 2048) : gd.siIdx (ix2 n h) ⟨1, by decide⟩ = ix2 n 1 := by
  funext a
  match a with
  | ⟨0, _⟩ => rfl
  | ⟨1, _⟩ => rfl
/-- The gather's expert is the row's first index, kept within the experts. -/
theorem gd_start0 (n : Fin 1024) (h : Fin 2048) (idx : IVec S1024x2 32) : gd.start (ix2 n h) idx 0 = min (idx (ix2 n 0)).toInt.toNat 15 := by
  rw [← gd_si0 n h]; rfl
/-- The gather's slot is the row's second index, kept within the slots. -/
theorem gd_start1 (n : Fin 1024) (h : Fin 2048) (idx : IVec S1024x2 32) : gd.start (ix2 n h) idx 1 = min (idx (ix2 n 1)).toInt.toNat 255 := by
  rw [← gd_si1 n h]; rfl

variable (x0 : FVec Ideal S64x8x2048 .f32) (x1 : FVec Ideal S16x2048 .f32) (x2 : FVec Ideal S16x1024x2048 .f32) (x3 : FVec Ideal S16x2048x1024 .f32) (x4 : FVec Ideal S16x1024x2048 .f32) (hp : ∀ t e, -1 < rp x0 x1 t e)

/-- When a computed index is a given one, coordinate by coordinate. -/
theorem some_ix3 (g : Fin 3 → ℕ) (hg : ∀ a : Fin 3, g a < S16x256x2048.size a) (e : Fin 16) (c : Fin 256) (h : Fin 2048) :
    (some (fun a => ⟨g a, hg a⟩) : Option S16x256x2048.Idx) = some (ix3 e c h) ↔ g 0 = e.val ∧ g 1 = c.val ∧ g 2 = h.val := by
  constructor
  · intro q
    have q := Option.some.inj q
    exact ⟨congrArg Fin.val (congrFun q 0), congrArg Fin.val (congrFun q 1), congrArg Fin.val (congrFun q 2)⟩
  · rintro ⟨q0, q1, q2⟩
    refine congrArg some (funext fun a => Fin.ext ?_)
    match a with
    | ⟨0, _⟩ => exact q0
    | ⟨1, _⟩ => exact q1
    | ⟨2, _⟩ => exact q2

section
include hp

/-- Where an update's element lands: at its choice's expert and capped place, in its own column. -/
theorem lands (n : Fin 1024) (h' h : Fin 2048) (e : Fin 16) (c : Fin 256) :
    sd.resultIdx? (ix2 n h') (val_main_v45 (F := Ideal) x0 x1) = some (ix3 e c h)
      ↔ exOf (rp x0 x1) n = e ∧ min 255 (plc x0 x1 n) = c.val ∧ h' = h := by
  have s0 : sd.start (ix2 n h') (val_main_v45 (F := Ideal) x0 x1) 0 = ((exOf (rp x0 x1) n).val : Int) := by
    rw [sd_start0, v45_0 x0 x1 hp, WordArith.toInt_ofNat_small _ (by omega)]
  have s1 : sd.start (ix2 n h') (val_main_v45 (F := Ideal) x0 x1) 1 = ((min 255 (plc x0 x1 n) : ℕ) : Int) := by
    rw [sd_start1, v45_1 x0 x1 hp, WordArith.toInt_ofNat_small _ (by omega)]
  have hall : ∀ a, 0 ≤ sd.start (ix2 n h') (val_main_v45 (F := Ideal) x0 x1) a + (sd.window (ix2 n h') a : Int)
      ∧ sd.start (ix2 n h') (val_main_v45 (F := Ideal) x0 x1) a + (sd.window (ix2 n h') a : Int) < (S16x256x2048.size a : Int) := by
    intro a
    match a with
    | ⟨0, _⟩ =>
      show 0 ≤ sd.start (ix2 n h') _ 0 + (sd.window (ix2 n h') 0 : Int) ∧ sd.start (ix2 n h') _ 0 + (sd.window (ix2 n h') 0 : Int) < ((16 : ℕ) : Int)
      rw [s0, sd_window0]; omega
    | ⟨1, _⟩ =>
      show 0 ≤ sd.start (ix2 n h') _ 1 + (sd.window (ix2 n h') 1 : Int) ∧ sd.start (ix2 n h') _ 1 + (sd.window (ix2 n h') 1 : Int) < ((256 : ℕ) : Int)
      rw [s1, sd_window1]; omega
    | ⟨2, _⟩ =>
      show 0 ≤ sd.start (ix2 n h') _ 2 + (sd.window (ix2 n h') 2 : Int) ∧ sd.start (ix2 n h') _ 2 + (sd.window (ix2 n h') 2 : Int) < ((2048 : ℕ) : Int)
      rw [sd_start2, sd_window2]; omega
  unfold ScatterDims.resultIdx?
  rw [dif_pos hall]
  have e0 : (sd.start (ix2 n h') (val_main_v45 (F := Ideal) x0 x1) 0 + (sd.window (ix2 n h') 0 : Int)).toNat = (exOf (rp x0 x1) n).val := by
    rw [s0, sd_window0]; omega
  have e1 : (sd.start (ix2 n h') (val_main_v45 (F := Ideal) x0 x1) 1 + (sd.window (ix2 n h') 1 : Int)).toNat = min 255 (plc x0 x1 n) := by
    rw [s1, sd_window1]; omega
  have e2 : (sd.start (ix2 n h') (val_main_v45 (F := Ideal) x0 x1) 2 + (sd.window (ix2 n h') 2 : Int)).toNat = h'.val := by
    rw [sd_start2, sd_window2]; omega
  refine (some_ix3 (fun a => (sd.start (ix2 n h') (val_main_v45 (F := Ideal) x0 x1) a + (sd.window (ix2 n h') a : Int)).toNat) _ e c h).trans ?_
  rw [e0, e1, e2, Fin.ext_iff, Fin.ext_iff]

omit hp in
/-- A choice takes a place exactly when it is its expert's and its place. -/
theorem hit_iff (n : Fin 1024) (e : Fin 16) (c : ℕ) : hit (rp x0 x1) (chOf n) (tokOf n) e c ↔ exOf (rp x0 x1) n = e ∧ plc x0 x1 n = c := by
  constructor
  · rintro ⟨q0, q1⟩
    have q0 : exOf (rp x0 x1) n = e := q0
    subst q0
    exact ⟨rfl, q1⟩
  · rintro ⟨q0, q1⟩
    subst q0
    exact ⟨rfl, q1⟩

/-- The buffer holds each expert's places: what is past the capacity adds only zeros. -/
theorem v46_at (e : Fin 16) (c : Fin 256) (h : Fin 2048) : val_main_v46 (F := Ideal) x0 x1 (ix3 e c h) = slot (rp x0 x1) (rx x0) e c.val h := by
  show val_main_v32 (F := Ideal) (ix3 e c h) + ∑ j ∈ Finset.univ.filter (fun j => sd.resultIdx? j (val_main_v45 (F := Ideal) x0 x1) = some (ix3 e c h)),
    val_main_v31 (F := Ideal) x0 x1 j = _
  have z : val_main_v32 (F := Ideal) (ix3 e c h) = 0 := by pointwise [val_main_v32, val_main_cst_8]
  rw [z, zero_add, Finset.sum_filter]
  refine (sum_idx2 _).trans ?_
  unfold slot
  refine Eq.trans (Finset.sum_congr rfl fun n _ => ?_) ((sum_flat fun n => if hit (rp x0 x1) (chOf n) (tokOf n) e c.val then rx x0 (tokOf n) h else 0).trans ?_)
  · rw [Finset.sum_eq_single h]
    · simp only [lands x0 x1 hp, v31_at x0 x1 hp]
      by_cases hh : hit (rp x0 x1) (chOf n) (tokOf n) e c.val
      · have hv := hit_iff x0 x1 n e c.val |>.mp hh
        rw [if_pos hh, if_pos ⟨hv.1, by omega, trivial⟩, if_pos (by omega)]
      · rw [if_neg hh]
        by_cases hk : exOf (rp x0 x1) n = e ∧ min 255 (plc x0 x1 n) = c.val ∧ True
        · rw [if_pos hk, if_neg]
          intro hlt
          exact hh ((hit_iff x0 x1 n e c.val).mpr ⟨hk.1, by have := hk.2.1; omega⟩)
        · rw [if_neg hk]
    · intro h' _ hne
      exact if_neg fun q => hne ((lands x0 x1 hp n h' h e c).mp q).2.2
    · exact fun q => absurd (Finset.mem_univ _) q
  · simp only [chOf_flat, tokOf_flat]

/-- The gathered row of a choice: its expert's output at its capped place. -/
theorem v66_at (n : Fin 1024) (h : Fin 2048) : val_main_v66 (F := Ideal) x0 x1 x2 x3 x4 (ix2 n h)
    = val_main_v51 (F := Ideal) x0 x1 x2 x3 x4 (ix3 (exOf (rp x0 x1) n) ⟨min 255 (plc x0 x1 n), by omega⟩ h) := by
  unfold val_main_v66 Host.gather
  refine congrArg _ (funext fun a => Fin.ext ?_)
  match a with
  | ⟨0, _⟩ =>
    show gd.start (ix2 n h) (val_main_v65 (F := Ideal) x0 x1) 0 + 0 + 0 = (exOf (rp x0 x1) n).val
    rw [gd_start0, v65_0 x0 x1 hp, WordArith.toInt_ofNat_small _ (by omega)]
    omega
  | ⟨1, _⟩ =>
    show gd.start (ix2 n h) (val_main_v65 (F := Ideal) x0 x1) 1 + 0 + 0 = min 255 (plc x0 x1 n)
    rw [gd_start1, v65_1 x0 x1 hp, WordArith.toInt_ofNat_small _ (by omega)]
    omega
  | ⟨2, _⟩ =>
    show 0 + 0 + h.val = h.val
    omega

/-- An expert's output at a place. -/
theorem v51_at (e : Fin 16) (c : Fin 256) (h : Fin 2048) : val_main_v51 (F := Ideal) x0 x1 x2 x3 x4 (ix3 e c h)
    = mlp (slot (rp x0 x1) (rx x0) e c.val) (cube x2 e) (cube x4 e) (cube x3 e) h := by
  pointwise [val_main_v51, val_main_v50, val_main_v49, val_main_v48, val_main_call4_v5, val_main_call4_v4, val_main_call4_v3, val_main_call4_v2, val_main_call4_v1, val_main_call4_v0, val_main_call4_cst, val_main_call4_cst_0, val_main_v47]
  simp only [v46_at x0 x1 hp]
  rfl

/-- A choice's row: its expert's output at its place, or zero past the capacity. -/
theorem v67_at (n : Fin 1024) (h : Fin 2048) : val_main_v67 (F := Ideal) x0 x1 x2 x3 x4 (ix2 n h)
    = if plc x0 x1 n < 256 then
        mlp (slot (rp x0 x1) (rx x0) (exOf (rp x0 x1) n) (plc x0 x1 n)) (cube x2 (exOf (rp x0 x1) n)) (cube x4 (exOf (rp x0 x1) n)) (cube x3 (exOf (rp x0 x1) n)) h
      else 0 := by
  pointwise [val_main_v67, val_main_call5_v2, val_main_call5_v1, val_main_call5_v0, val_main_cst_17, val_main_v52]
  rw [v26_at x0 x1 hp, v66_at x0 x1 x2 x3 x4 hp, v51_at x0 x1 x2 x3 x4 hp]
  by_cases hc : plc x0 x1 n < 256
  · rw [if_pos hc, if_pos hc]
    dsimp only
    rw [Nat.min_eq_right (by omega)]
    rfl
  · rw [if_neg hc, if_neg hc]
    exact Ideal.ofBits_zero FTy.f32

/-- The weighted sum over a token's two choices is the sparse part. -/
theorem v72_at (t : Fin 512) (h : Fin 2048) : val_main_v72 (F := Ideal) x0 x1 x2 x3 x4 (ix2 t h)
    = sparse (rp x0 x1) (rx x0) (cube x2) (cube x4) (cube x3) t h := by
  pointwise [val_main_v72, val_main_v71, val_main_v70, val_main_v69, val_main_v68, val_main_cst_18]
  simp only [v17_at x0 x1 hp]
  unfold sparse
  refine Finset.sum_congr rfl fun k _ => ?_
  rw [show (⟨t.val * 2 + k.val, by omega⟩ : Fin 1024) = flatCh t k from Fin.ext (by show t.val * 2 + k.val = 2 * t.val + k.val; omega),
    v67_at x0 x1 x2 x3 x4 hp, exOf_flat, ite_mul, zero_mul]
  unfold plc
  rw [exOf_flat, tokOf_flat]

end

/-- The shared perceptron. -/
theorem v80_at (x5 x6 x7 : FVec Ideal S2048x2048 .f32) (t : Fin 512) (h : Fin 2048) : val_main_v80 (F := Ideal) x0 x5 x6 x7 (ix2 t h)
    = mlp (rx x0 t) (mat x5) (mat x6) (mat x7) h := by
  pointwise [val_main_v80, val_main_v79, val_main_v78, val_main_v77, val_main_v76, val_main_v75, val_main_call6_v5, val_main_call6_v4, val_main_call6_v3, val_main_call6_v2, val_main_call6_v1, val_main_call6_v0, val_main_call6_cst, val_main_call6_cst_0, val_main_v74, val_main_v73]
  rfl

end Cert.Moe

end
-- ==== Proof.Math.ROut.lean ====
/- What the reference computes: the layer of its arguments. -/
module

public import proofs.«01_k».proof.Proof.Math.RExpert

@[expose] public section

noncomputable section

namespace Cert.Moe

open Idealize.ShloMosaic Cert.ReferenceIdeal Cert.ReferenceIdeal.Gen Cert.ReferenceIdeal.Read

variable (x0 : FVec Ideal S64x8x2048 .f32) (x1 : FVec Ideal S16x2048 .f32) (x2 : FVec Ideal S16x1024x2048 .f32) (x3 : FVec Ideal S16x2048x1024 .f32)
    (x4 : FVec Ideal S16x1024x2048 .f32) (x5 x6 x7 : FVec Ideal S2048x2048 .f32) (hp : ∀ t e, -1 < rp x0 x1 t e)
include hp

/-- With the router's probabilities above −1, the reference computes the layer. -/
theorem reference_value : val_main_v82 (F := Ideal) x0 x1 x2 x3 x4 x5 x6 x7
    = shapeCast S64x8x2048 (fun i : S512x2048.Idx => layer (rx x0) (mat x1) (cube x2) (cube x3) (cube x4) (mat x5) (mat x6) (mat x7) (i 0) (i 1))
        shapeCasts_S512x2048_S64x8x2048 := by
  unfold val_main_v82
  refine congrArg (fun x => shapeCast S64x8x2048 x shapeCasts_S512x2048_S64x8x2048) ?_
  funext i
  obtain ⟨t, h, rfl⟩ : ∃ (t : Fin 512) (h : Fin 2048), i = ix2 t h := ⟨i 0, i 1, eq_ix2 i⟩
  have e : val_main_v81 (F := Ideal) x0 x1 x2 x3 x4 x5 x6 x7 (ix2 t h)
      = val_main_v72 (F := Ideal) x0 x1 x2 x3 x4 (ix2 t h) + val_main_v80 (F := Ideal) x0 x5 x6 x7 (ix2 t h) := by pointwise [val_main_v81]
  rw [e, v72_at x0 x1 x2 x3 x4 hp, v80_at]
  rfl

end Cert.Moe

end
-- ==== Proof.Math.Finite.lean ====
/- Finite inputs give the router real scores, hence probabilities that are not negative. -/
module

public import proofs.«01_k».proof.Proof.Math.Model

@[expose] public section

noncomputable section

namespace Cert.Moe

open Idealize.ShloMosaic

/-- A value that is a real number. -/
def IsReal (x : EReal) : Prop := ∃ a : ℝ, x = (a : EReal)

/-- The router's scores of real inputs are real. -/
theorem logits_real {x : Fin 512 → Fin 2048 → EReal} {r : Fin 16 → Fin 2048 → EReal} (hx : ∀ t k, IsReal (x t k)) (hr : ∀ e k, IsReal (r e k))
    (t : Fin 512) (e : Fin 16) : IsReal (logits x r t e) := by
  unfold logits
  refine Finset.sum_induction _ IsReal ?_ ⟨0, rfl⟩ fun k _ => ?_
  · rintro a b ⟨a, rfl⟩ ⟨b, rfl⟩
    exact ⟨a + b, (EReal.coe_add a b).symm⟩
  · obtain ⟨a, ha⟩ := hx t k
    obtain ⟨b, hb⟩ := hr e k
    rw [ha, hb]
    exact ⟨a * b, (EReal.coe_mul a b).symm⟩

/-- An exponential is not negative. -/
theorem exp_nonneg (x : EReal) : 0 ≤ Ideal.exp x := by
  induction x with
  | bot => exact le_refl _
  | top => exact le_top
  | coe a => exact EReal.coe_nonneg.mpr (Real.exp_pos a).le

/-- The softmax of real scores is not negative: its denominator is positive. -/
theorem prob_nonneg {l : Fin 16 → EReal} (hl : ∀ e, IsReal (l e)) (e : Fin 16) : 0 ≤ prob l e := by
  unfold prob
  have ht : IsReal (top l) := by
    unfold top
    rw [fold_max_eq]
    exact hl _
  have hpos : 0 < ∑ k, Ideal.exp (l k - top l) := by
    refine lt_of_lt_of_le ?_ (Finset.single_le_sum (f := fun k => Ideal.exp (l k - top l)) (fun k _ => exp_nonneg _) (Finset.mem_univ 0))
    obtain ⟨a, ha⟩ := hl 0
    obtain ⟨b, hb⟩ := ht
    rw [ha, hb, ← EReal.coe_sub]
    exact EReal.coe_pos.mpr (Real.exp_pos _)
  unfold Ideal.div
  rw [if_neg hpos.ne']
  exact mul_nonneg (exp_nonneg _) (EReal.inv_nonneg_of_nonneg hpos.le)

/-- With real tokens and router rows, every probability is above −1. -/
theorem probs_gt {x : Fin 512 → Fin 2048 → EReal} {r : Fin 16 → Fin 2048 → EReal} (hx : ∀ t k, IsReal (x t k)) (hr : ∀ e k, IsReal (r e k))
    (t : Fin 512) (e : Fin 16) : -1 < probs x r t e :=
  lt_of_lt_of_le (by rw [show (-1 : EReal) = ((-1 : ℝ) : EReal) by norm_num]; exact EReal.coe_neg'.mpr (by norm_num)) (prob_nonneg (fun e => logits_real hx hr t e) e)

end Cert.Moe

end
-- ==== Proof.Value.lean ====
/- The two results are equal: under finite hidden states and router rows both programs compute the layer. -/
module

public import proofs.«01_k».proof.Defs
public import proofs.«01_k».proof.Proof.Math.KOut
public import proofs.«01_k».proof.Proof.Math.ROut
public import proofs.«01_k».proof.Proof.Math.Finite
public import proofs.«01_k».proof.Proof.Gen.ReferenceIdeal.Run

@[expose] public section

set_option maxRecDepth 16384

noncomputable section

namespace Cert.Proof

open Idealize.ShloMosaic Idealize.ShloMosaic.TcCoe Idealize.SL.Sem Cert.Moe

/-- The side conditions the precondition's function states. -/
theorem preFacts : Cert.Pre_router_finite.Facts where
  bcast_S_S64x8x2048 := by decide
  bcast_S_S16x2048 := by decide

/-- A magnitude below +∞ is a real number's. -/
theorem real_of_lt {x : EReal} (h : FloatOps.cmpf (F := Ideal) (φ := .f32) .olt (max x (-x)) (FloatOps.ofBits (F := Ideal) .f32 0x7F800000#32) = 1#1) : IsReal x := by
  have htop : (FloatOps.ofBits (F := Ideal) .f32 0x7F800000#32 : EReal) = ⊤ := by
    show Ideal.ofBits .f32 0x7F800000#32 = ⊤
    simp [Ideal.ofBits, Ideal.ieee]
  rw [htop] at h
  have hlt : max x (-x) < (⊤ : EReal) := by
    by_contra hn
    have h' : BitVec.ofBool (decide (max x (-x) < (⊤ : EReal))) = 1#1 := h
    rw [decide_eq_false hn] at h'
    exact absurd h' (by decide)
  induction x with
  | bot => simp at hlt
  | top => simp at hlt
  | coe a => exact ⟨a, rfl⟩

section
variable (m : (ℓ : Loc Cert.KernelIdeal.nD Cert.KernelIdeal.τ Cert.KernelIdeal.sig) → Buf (Elt Ideal) ℓ)

/-- Under the precondition every probability is above −1. -/
theorem pre_probs (h : Cert.Pre_KernelIdeal_router_finite (hPre_router_finite := preFacts) m) (c : Dev Cert.KernelIdeal.nD) (t : Fin 512) (e : Fin 16) :
    -1 < probs (mat (flat (m ((c : Thread Cert.KernelIdeal.nD Cert.KernelIdeal.τ).loc Cert.KernelIdeal.main_arg0))))
      (mat (φ := .f32) (m ((c : Thread Cert.KernelIdeal.nD Cert.KernelIdeal.τ).loc Cert.KernelIdeal.main_arg1))) t e := by
  obtain ⟨h0, h1⟩ := h c
  refine probs_gt (fun t k => ?_) (fun e k => ?_) t e
  · exact real_of_lt (congrFun h0 (Shape.reshapeEquiv _ (ix2 t k)))
  · exact real_of_lt (congrFun h1 (ix2 e k))

end

/-- The reference's result is what the kernel's buffer ends holding, from arguments that agree. -/
theorem results_agree (m : (ℓ : Loc Cert.KernelIdeal.nD Cert.KernelIdeal.τ Cert.KernelIdeal.sig) → Buf (Elt Ideal) ℓ) (g : Dev Cert.KernelIdeal.nD → PrngReg)
    (h : Cert.Pre_KernelIdeal_router_finite (hPre_router_finite := preFacts) m) (c : Dev Cert.KernelIdeal.nD) :
    Cert.ReferenceIdeal.Read.val_main_v82 (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6))
      (m ((c : Thread Cert.KernelIdeal.nD Cert.KernelIdeal.τ).loc Cert.KernelIdeal.main_arg7))
    = Cert.KernelIdeal.Own.W4 m g c (Proc.devRef .tc Cert.KernelIdeal.main_v0) :=
  (reference_value _ _ _ _ _ _ _ _ (pre_probs m h c)).trans (kernel_value m g c (pre_probs m h c)).symm

/-- The kernel and the reference, over the extended reals, end with equal results. -/
theorem algebraic : Cert.algebraic_KernelIdeal_ReferenceIdeal_pre_router_finite (hKernelIdeal := Cert.KernelIdeal.Gen.facts)
    (hReferenceIdeal := Cert.ReferenceIdeal.Gen.facts) (hPre_router_finite := preFacts) := by
  intro m g m' g' hpre hargs
  refine ⟨fun c => Cert.KernelIdeal.Own.W4 m g c (Proc.devRef .tc Cert.KernelIdeal.main_v0),
    (θ_run _ _ _).mono (fun _ h => h.1) (Cert.KernelIdeal.Own.ends_named m g),
    (θ_run _ _ _).mono (fun r h c => ⟨(h c).1.trans
      ((Cert.ReferenceIdeal.Read.val_main_v82_eq (F := Ideal) (StableHlo.launchContents m' c)).trans ?_), (h c).2⟩)
      (Cert.ReferenceIdeal.Value.run m' g')⟩
  obtain ⟨a0, a1, a2, a3, a4, a5, a6, a7⟩ := hargs c
  clear h
  have e : ∀ b : Ref Cert.ReferenceIdeal.sig .tc, StableHlo.launchContents m' c (Proc.devRef .tc b)
      = m' ((c.tc : Thread Cert.ReferenceIdeal.nD Cert.ReferenceIdeal.τ).loc b) := fun _ => rfl
  rw [e, e, e, e, e, e, e, e, a0, a1, a2, a3, a4, a5, a6, a7]
  exact results_agree m g hpre c

end Cert.Proof

end
-- ==== Proof.lean ====
/- The certificate assembled: the frames of the kernel (both instances) and of the reference, and the equality of the two
   results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value
public import Idealize.ShloMosaic.Lib.Quiescent

@[expose] public section

noncomputable section

namespace Cert.Proof

open Idealize.ShloMosaic Idealize.SL.Sem

/-- The kernel's run in its machine arithmetic: the arguments end as launched, every semaphore at zero. -/
theorem frame_kernel : Cert.quiescent_Kernel := fun m ρ _ =>
  (θ_run _ _ _).mono (fun _ h => ⟨fun c => (h.1 c).2, h.2⟩) (Cert.Kernel.Own.ends_named m ρ)

/-- The same over the extended reals. -/
theorem frame_kernelIdeal : Cert.quiescent_KernelIdeal := fun m ρ _ =>
  (θ_run _ _ _).mono (fun _ h => ⟨fun c => (h.1 c).2, h.2⟩) (Cert.KernelIdeal.Own.ends_named m ρ)

/-- The reference's run: it has no semaphore, so none is left signalled. -/
theorem frame_reference : Cert.quiescent_ReferenceIdeal := fun m ρ _ =>
  (θ_run _ _ _).mono (fun r h => ⟨fun c => (h c).2, sem_eq_zero_of_no_sems rfl r.2⟩) (Cert.ReferenceIdeal.Value.run m ρ)

/-- The claim. -/
theorem claim : Cert.Claim := ⟨Cert.Kernel.Gen.facts, Cert.KernelIdeal.Gen.facts, Cert.ReferenceIdeal.Gen.facts, preFacts,
  frame_kernel, frame_kernelIdeal, fun m ρ _ => frame_kernelIdeal m ρ trivial, frame_reference,
  fun m ρ _ => frame_reference m ρ trivial, trivial, algebraic⟩

end Cert.Proof

end
